-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "c2" .f32 0x3D122279#32 ((80338380498831 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x768 : Shape := ⟨2, ![2048, 768]⟩
abbrev S768x32 : Shape := ⟨2, ![768, 32]⟩
abbrev S32 : Shape := ⟨1, ![32]⟩
abbrev S32x768x768 : Shape := ⟨3, ![32, 768, 768]⟩
abbrev S32x768 : Shape := ⟨2, ![32, 768]⟩
abbrev S768x4 : Shape := ⟨2, ![768, 4]⟩
abbrev S4 : Shape := ⟨1, ![4]⟩
abbrev S4x768x768 : Shape := ⟨3, ![4, 768, 768]⟩
abbrev S4x768 : Shape := ⟨2, ![4, 768]⟩
abbrev S_ : Shape := ⟨0, ![]⟩

class Facts : Prop where
  bcast_S_S2048x768 : S_.BroadcastsInDim S2048x768 (![] : Fin 0 → Fin S2048x768.rank)
  bcast_S_S32x768x768 : S_.BroadcastsInDim S32x768x768 (![] : Fin 0 → Fin S32x768x768.rank)
  bcast_S_S32x768 : S_.BroadcastsInDim S32x768 (![] : Fin 0 → Fin S32x768.rank)
  bcast_S_S768x4 : S_.BroadcastsInDim S768x4 (![] : Fin 0 → Fin S768x4.rank)
  bcast_S_S4 : S_.BroadcastsInDim S4 (![] : Fin 0 → Fin S4.rank)
  bcast_S_S4x768x768 : S_.BroadcastsInDim S4x768x768 (![] : Fin 0 → Fin S4x768x768.rank)
  bcast_S_S4x768 : S_.BroadcastsInDim S4x768 (![] : Fin 0 → Fin S4x768.rank)

variable [Facts]

def fn_part1 {F : FTy → Type} [FloatOps F] (main_arg10 : FVec F S4x768 .f32) (main_v2 : IVec S2048x768 1) (main_v5 : IVec S32x768x768 1) (main_v8 : IVec S32x768 1) (main_v11 : IVec S768x4 1) (main_v14 : IVec S4 1) (main_v17 : IVec S4x768x768 1) : IVec S2048x768 1 × IVec S32x768x768 1 × IVec S32x768 1 × IVec S768x4 1 × IVec S4 1 × IVec S4x768x768 1 × IVec S4x768 1 :=
  let main_v18 : FVec F S4x768 .f32 := Host.absf main_arg10
  let main_cst_5 : FVec F S_ .f32 := constant S_ .f32 0x7F800000#32
  let main_v19 : FVec F S4x768 .f32 := broadcastInDim S4x768 ![] bcast_S_S4x768 main_cst_5
  let main_v20 : IVec S4x768 1 := cmpf .olt main_v18 main_v19
  (main_v2, main_v5, main_v8, main_v11, main_v14, main_v17, main_v20)

def fn {F : FTy → Type} [FloatOps F] (main_arg0 : FVec F S2048x768 .f32) (main_arg1 : FVec F S768x32 .f32) (main_arg2 : FVec F S32 .f32) (main_arg3 : FVec F S32x768x768 .f32) (main_arg4 : FVec F S32x768 .f32) (main_arg5 : FVec F S32x768x768 .f32) (main_arg6 : FVec F S32x768 .f32) (main_arg7 : FVec F S768x4 .f32) (main_arg8 : FVec F S4 .f32) (main_arg9 : FVec F S4x768x768 .f32) (main_arg10 : FVec F S4x768 .f32) (main_arg11 : FVec F S4x768x768 .f32) (main_arg12 : FVec F S4x768 .f32) : IVec S2048x768 1 × IVec S32x768x768 1 × IVec S32x768 1 × IVec S768x4 1 × IVec S4 1 × IVec S4x768x768 1 × IVec S4x768 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S32x768x768 .f32 := Host.absf main_arg3
  let main_cst_0 : FVec F S_ .f32 := constant S_ .f32 0x7F800000#32
  let main_v4 : FVec F S32x768x768 .f32 := broadcastInDim S32x768x768 ![] bcast_S_S32x768x768 main_cst_0
  let main_v5 : IVec S32x768x768 1 := cmpf .olt main_v3 main_v4
  let main_v6 : FVec F S32x768 .f32 := Host.absf main_arg4
  let main_cst_1 : FVec F S_ .f32 := constant S_ .f32 0x7F800000#32
  let main_v7 : FVec F S32x768 .f32 := broadcastInDim S32x768 ![] bcast_S_S32x768 main_cst_1
  let main_v8 : IVec S32x768 1 := cmpf .olt main_v6 main_v7
  let main_v9 : FVec F S768x4 .f32 := Host.absf main_arg7
  let main_cst_2 : FVec F S_ .f32 := constant S_ .f32 0x7F800000#32
  let main_v10 : FVec F S768x4 .f32 := broadcastInDim S768x4 ![] bcast_S_S768x4 main_cst_2
  let main_v11 : IVec S768x4 1 := cmpf .olt main_v9 main_v10
  let main_v12 : FVec F S4 .f32 := Host.absf main_arg8
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  let main_v15 : FVec F S4x768x768 .f32 := Host.absf main_arg9
  let main_cst_4 : FVec F S_ .f32 := constant S_ .f32 0x7F800000#32
  let main_v16 : FVec F S4x768x768 .f32 := broadcastInDim S4x768x768 ![] bcast_S_S4x768x768 main_cst_4
  let main_v17 : IVec S4x768x768 1 := cmpf .olt main_v15 main_v16
  fn_part1 (F := F) main_arg10 main_v2 main_v5 main_v8 main_v11 main_v14 main_v17
-- ==== Kernel.lean ====
abbrev S2048x768 : Shape := ⟨2, ![2048, 768]⟩
abbrev S768x32 : Shape := ⟨2, ![768, 32]⟩
abbrev S32 : Shape := ⟨1, ![32]⟩
abbrev S32x768x768 : Shape := ⟨3, ![32, 768, 768]⟩
abbrev S32x768 : Shape := ⟨2, ![32, 768]⟩
abbrev S768x4 : Shape := ⟨2, ![768, 4]⟩
abbrev S4 : Shape := ⟨1, ![4]⟩
abbrev S4x768x768 : Shape := ⟨3, ![4, 768, 768]⟩
abbrev S4x768 : Shape := ⟨2, ![4, 768]⟩
abbrev S1x32 : Shape := ⟨2, ![1, 32]⟩
abbrev S32x1x768 : Shape := ⟨3, ![32, 1, 768]⟩
abbrev S2048x32 : Shape := ⟨2, ![2048, 32]⟩
abbrev S1x1 : Shape := ⟨2, ![1, 1]⟩
abbrev S1x4 : Shape := ⟨2, ![1, 4]⟩
abbrev S4x1x768 : Shape := ⟨3, ![4, 1, 768]⟩
abbrev S_ : Shape := ⟨0, ![]⟩
abbrev S1x768x768 : Shape := ⟨3, ![1, 768, 768]⟩
abbrev S1x1x768 : Shape := ⟨3, ![1, 1, 768]⟩
abbrev S32x2048 : Shape := ⟨2, ![32, 2048]⟩
abbrev S2048 : Shape := ⟨1, ![2048]⟩
abbrev S1x2048 : Shape := ⟨2, ![1, 2048]⟩
abbrev S1 : Shape := ⟨1, ![1]⟩
abbrev S32x1 : Shape := ⟨2, ![32, 1]⟩
abbrev S2048x1 : Shape := ⟨2, ![2048, 1]⟩
abbrev S768x768 : Shape := ⟨2, ![768, 768]⟩
abbrev S1x768 : Shape := ⟨2, ![1, 768]⟩
abbrev S2048x4 : Shape := ⟨2, ![2048, 4]⟩
abbrev S4x2048 : Shape := ⟨2, ![4, 2048]⟩
abbrev S4x1 : Shape := ⟨2, ![4, 1]⟩

abbrev nBuf : Space → Nat
  | .hbm => 22
  | .vmem => 28
  | .smem => 0
  | _ => 0

abbrev bufTy : (tb : Table) → Fin (tcTables nBuf tb) → BufTy
  | .hbm, ⟨0, _⟩ => ⟨S2048x768, .f32⟩
  | .hbm, ⟨1, _⟩ => ⟨S768x32, .f32⟩
  | .hbm, ⟨2, _⟩ => ⟨S32, .f32⟩
  | .hbm, ⟨3, _⟩ => ⟨S32x768x768, .f32⟩
  | .hbm, ⟨4, _⟩ => ⟨S32x768, .f32⟩
  | .hbm, ⟨5, _⟩ => ⟨S32x768x768, .f32⟩
  | .hbm, ⟨6, _⟩ => ⟨S32x768, .f32⟩
  | .hbm, ⟨7, _⟩ => ⟨S768x4, .f32⟩
  | .hbm, ⟨8, _⟩ => ⟨S4, .f32⟩
  | .hbm, ⟨9, _⟩ => ⟨S4x768x768, .f32⟩
  | .hbm, ⟨10, _⟩ => ⟨S4x768, .f32⟩
  | .hbm, ⟨11, _⟩ => ⟨S4x768x768, .f32⟩
  | .hbm, ⟨12, _⟩ => ⟨S4x768, .f32⟩
  | .hbm, ⟨13, _⟩ => ⟨S1x32, .f32⟩
  | .hbm, ⟨14, _⟩ => ⟨S32x1x768, .f32⟩
  | .hbm, ⟨15, _⟩ => ⟨S2048x768, .f32⟩
  | .hbm, ⟨16, _⟩ => ⟨S2048x32, .f32⟩
  | .hbm, ⟨17, _⟩ => ⟨S1x1, .f32⟩
  | .hbm, ⟨18, _⟩ => ⟨S1x4, .f32⟩
  | .hbm, ⟨19, _⟩ => ⟨S4x1x768, .f32⟩
  | .hbm, ⟨20, _⟩ => ⟨S2048x768, .f32⟩
  | .hbm, ⟨21, _⟩ => ⟨S_, .f32⟩
  | .local _ .vmem, ⟨0, _⟩ => ⟨S2048x768, .f32⟩
  | .local _ .vmem, ⟨1, _⟩ => ⟨S768x32, .f32⟩
  | .local _ .vmem, ⟨2, _⟩ => ⟨S1x32, .f32⟩
  | .local _ .vmem, ⟨3, _⟩ => ⟨S1x768x768, .f32⟩
  | .local _ .vmem, ⟨4, _⟩ => ⟨S1x768x768, .f32⟩
  | .local _ .vmem, ⟨5, _⟩ => ⟨S1x1x768, .f32⟩
  | .local _ .vmem, ⟨6, _⟩ => ⟨S1x1x768, .f32⟩
  | .local _ .vmem, ⟨7, _⟩ => ⟨S1x768x768, .f32⟩
  | .local _ .vmem, ⟨8, _⟩ => ⟨S1x768x768, .f32⟩
  | .local _ .vmem, ⟨9, _⟩ => ⟨S2048x768, .f32⟩
  | .local _ .vmem, ⟨10, _⟩ => ⟨S2048x32, .f32⟩
  | .local _ .vmem, ⟨11, _⟩ => ⟨S1x1, .f32⟩
  | .local _ .vmem, ⟨12, _⟩ => ⟨S2048x32, .f32⟩
  | .local _ .vmem, ⟨13, _⟩ => ⟨S2048x768, .f32⟩
  | .local _ .vmem, ⟨14, _⟩ => ⟨S2048x768, .f32⟩
  | .local _ .vmem, ⟨15, _⟩ => ⟨S768x4, .f32⟩
  | .local _ .vmem, ⟨16, _⟩ => ⟨S1x4, .f32⟩
  | .local _ .vmem, ⟨17, _⟩ => ⟨S1x768x768, .f32⟩
  | .local _ .vmem, ⟨18, _⟩ => ⟨S1x768x768, .f32⟩
  | .local _ .vmem, ⟨19, _⟩ => ⟨S1x1x768, .f32⟩
  | .local _ .vmem, ⟨20, _⟩ => ⟨S1x1x768, .f32⟩
  | .local _ .vmem, ⟨21, _⟩ => ⟨S1x768x768, .f32⟩
  | .local _ .vmem, ⟨22, _⟩ => ⟨S1x768x768, .f32⟩
  | .local _ .vmem, ⟨23, _⟩ => ⟨S2048x32, .f32⟩
  | .local _ .vmem, ⟨24, _⟩ => ⟨S32x768, .f32⟩
  | .local _ .vmem, ⟨25, _⟩ => ⟨S4x768, .f32⟩
  | .local _ .vmem, ⟨26, _⟩ => ⟨S2048x768, .f32⟩
  | .local _ .vmem, ⟨27, _⟩ => ⟨S2048x4, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2_0 : Ref sig .tc := ⟨.hbm, 15, rfl⟩
abbrev main_call0_v2_1 : Ref sig .tc := ⟨.hbm, 16, rfl⟩
abbrev main_call0_v2_2 : Ref sig .tc := ⟨.hbm, 17, rfl⟩
abbrev main_call0_v3 : Ref sig .tc := ⟨.hbm, 18, rfl⟩
abbrev main_call0_v4 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem9_0 : DmaSem sig := 24
abbrev cc1_sem10_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_18 : BitVec 32 := 0#32
  let v34 : BitVec 1 := Scalar.cmpi .eq arg0 c0_i32_18
  let v35 : BitVec 32 := Scalar.extui v34
  let c0_i32_19 : BitVec 32 := 0#32
  let v36 : BitVec 1 := Scalar.cmpi .ne v35 c0_i32_19
  v36

def k0_cond3 (i : grid0.Coords) : BitVec 1 :=
  let arg0 : BitVec 32 := BitVec.ofNat 32 (i 0).val
  let c0_i32_20 : BitVec 32 := 0#32
  let v37 : BitVec 1 := Scalar.cmpi .sgt arg0 c0_i32_20
  let v38 : BitVec 32 := Scalar.extui v37
  let c0_i32_21 : BitVec 32 := 0#32
  let v39 : BitVec 1 := Scalar.cmpi .ne v38 c0_i32_21
  v39

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c0_i32_18 : BitVec 32 := 0#32
  let v34 : BitVec 1 := Scalar.cmpi .eq arg0 c0_i32_18
  let v35 : BitVec 32 := Scalar.extui v34
  let c0_i32_19 : BitVec 32 := 0#32
  let v36 : BitVec 1 := Scalar.cmpi .ne v35 c0_i32_19
  v36

def k1_cond3 (i : grid1.Coords) : BitVec 1 :=
  let arg0 : BitVec 32 := BitVec.ofNat 32 (i 0).val
  let c0_i32_20 : BitVec 32 := 0#32
  let v37 : BitVec 1 := Scalar.cmpi .sgt arg0 c0_i32_20
  let v38 : BitVec 32 := Scalar.extui v37
  let c0_i32_21 : BitVec 32 := 0#32
  let v39 : BitVec 1 := Scalar.cmpi .ne v38 c0_i32_21
  v39

def k1_cond4 (i : grid1.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_22 : BitVec 32 := 0#32
  let v42 : BitVec 1 := Scalar.cmpi .ne v41 c0_i32_22
  v42

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x768x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x768x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== KernelIdeal.lean ====
variable {F : FTy → Type} [FloatOps F] [Named F]
def κ : String → Option EReal := fun
  | "c2" => some ((80338380498831 / 2251799813685248 : ℝ) : EReal)
  | _ => none
-- ==== ReferenceIdeal.lean ====
abbrev S2048x768 : Shape := ⟨2, ![2048, 768]⟩
abbrev S768x32 : Shape := ⟨2, ![768, 32]⟩
abbrev S32 : Shape := ⟨1, ![32]⟩
abbrev S32x768x768 : Shape := ⟨3, ![32, 768, 768]⟩
abbrev S32x768 : Shape := ⟨2, ![32, 768]⟩
abbrev S768x4 : Shape := ⟨2, ![768, 4]⟩
abbrev S4 : Shape := ⟨1, ![4]⟩
abbrev S4x768x768 : Shape := ⟨3, ![4, 768, 768]⟩
abbrev S4x768 : Shape := ⟨2, ![4, 768]⟩
abbrev S2048x32 : Shape := ⟨2, ![2048, 32]⟩
abbrev S1x32 : Shape := ⟨2, ![1, 32]⟩
abbrev S_ : Shape := ⟨0, ![]⟩
abbrev S2048 : Shape := ⟨1, ![2048]⟩
abbrev S2048x1 : Shape := ⟨2, ![2048, 1]⟩
abbrev S2048x16 : Shape := ⟨2, ![2048, 16]⟩
abbrev S2048x16x1 : Shape := ⟨3, ![2048, 16, 1]⟩
abbrev S2048x16x2 : Shape := ⟨3, ![2048, 16, 2]⟩
abbrev S2048x32x768 : Shape := ⟨3, ![2048, 32, 768]⟩
abbrev S1x32x768 : Shape := ⟨3, ![1, 32, 768]⟩
abbrev S32x768x2048 : Shape := ⟨3, ![32, 768, 2048]⟩
abbrev S1x1x32 : Shape := ⟨3, ![1, 1, 32]⟩
abbrev S2048x16x32 : Shape := ⟨3, ![2048, 16, 32]⟩
abbrev S2048x4 : Shape := ⟨2, ![2048, 4]⟩
abbrev S1x4 : Shape := ⟨2, ![1, 4]⟩
abbrev S2048x4x768 : Shape := ⟨3, ![2048, 4, 768]⟩
abbrev S1x4x768 : Shape := ⟨3, ![1, 4, 768]⟩
abbrev S4x768x2048 : Shape := ⟨3, ![4, 768, 2048]⟩

abbrev nBuf : Space → Nat
  | .hbm => 159
  | .vmem => 0
  | .smem => 0
  | _ => 0

abbrev hbmTy0_0 (i : Nat) : BufTy := match i % 128 with
  | 0 => ⟨S2048x768, .f32⟩
  | 1 => ⟨S768x32, .f32⟩
  | 2 => ⟨S32, .f32⟩
  | 3 => ⟨S32x768x768, .f32⟩
  | 4 => ⟨S32x768, .f32⟩
  | 5 => ⟨S32x768x768, .f32⟩
  | 6 => ⟨S32x768, .f32⟩
  | 7 => ⟨S768x4, .f32⟩
  | 8 => ⟨S4, .f32⟩
  | 9 => ⟨S4x768x768, .f32⟩
  | 10 => ⟨S4x768, .f32⟩
  | 11 => ⟨S4x768x768, .f32⟩
  | 12 => ⟨S4x768, .f32⟩
  | 13 => ⟨S2048x32, .f32⟩
  | 14 => ⟨S1x32, .f32⟩
  | 15 => ⟨S2048x32, .f32⟩
  | 16 => ⟨S2048x32, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x32, .f32⟩
  | 24 => ⟨S2048x32, .f32⟩
  | 25 => ⟨S2048x32, .f32⟩
  | 26 => ⟨S_, .f32⟩
  | 27 => ⟨S2048, .f32⟩
  | 28 => ⟨S2048x1, .f32⟩
  | 29 => ⟨S2048x32, .f32⟩
  | 30 => ⟨S2048x32, .f32⟩
  | 31 => ⟨S2048x16, .f32⟩
  | 32 => ⟨S2048x16, .i32⟩
  | 33 => ⟨S_, .f32⟩
  | 34 => ⟨S2048, .f32⟩
  | 35 => ⟨S2048x1, .f32⟩
  | 36 => ⟨S2048x16, .f32⟩
  | 37 => ⟨S2048x16, .f32⟩
  | 38 => ⟨S2048, .i32⟩
  | 39 => ⟨S2048x1, .i32⟩
  | 40 => ⟨S_, .f32⟩
  | 41 => ⟨S2048x32, .f32⟩
  | 42 => ⟨S_, .i32⟩
  | 43 => ⟨S2048x1, .i32⟩
  | 44 => ⟨S2048x1, .i1⟩
  | 45 => ⟨S_, .i32⟩
  | 46 => ⟨S2048x1, .i32⟩
  | 47 => ⟨S2048x1, .i32⟩
  | 48 => ⟨S2048x1, .i32⟩
  | 49 => ⟨S_, .i32⟩
  | 50 => ⟨S2048x16, .i32⟩
  | 51 => ⟨S2048x16, .i1⟩
  | 52 => ⟨S_, .i32⟩
  | 53 => ⟨S2048x16, .i32⟩
  | 54 => ⟨S2048x16, .i32⟩
  | 55 => ⟨S2048x16, .i32⟩
  | 56 => ⟨S2048x16, .i32⟩
  | 57 => ⟨S2048x16x1, .i32⟩
  | 58 => ⟨S2048x16x1, .i32⟩
  | 59 => ⟨S2048x16x2, .i32⟩
  | 60 => ⟨S2048x32, .f32⟩
  | 61 => ⟨S2048x32x768, .f32⟩
  | 62 => ⟨S1x32x768, .f32⟩
  | 63 => ⟨S2048x32x768, .f32⟩
  | 64 => ⟨S2048x32x768, .f32⟩
  | 65 => ⟨S2048x32x768, .f32⟩
  | 66 => ⟨S2048x32x768, .f32⟩
  | 67 => ⟨S_, .f32⟩
  | 68 => ⟨S2048x32x768, .f32⟩
  | 69 => ⟨S2048x32x768, .f32⟩
  | 70 => ⟨S2048x32x768, .f32⟩
  | 71 => ⟨S_, .f32⟩
  | 72 => ⟨S2048x32x768, .f32⟩
  | 73 => ⟨S2048x32x768, .f32⟩
  | 74 => ⟨S2048x32x768, .f32⟩
  | 75 => ⟨S_, .f32⟩
  | 76 => ⟨S2048x32x768, .f32⟩
  | 77 => ⟨S2048x32x768, .f32⟩
  | 78 => ⟨S_, .f32⟩
  | 79 => ⟨S2048x32x768, .f32⟩
  | 80 => ⟨S2048x32x768, .f32⟩
  | 81 => ⟨S2048x32x768, .f32⟩
  | 82 => ⟨S32x768x2048, .f32⟩
  | 83 => ⟨S2048x32x768, .f32⟩
  | 84 => ⟨S1x32x768, .f32⟩
  | 85 => ⟨S2048x32x768, .f32⟩
  | 86 => ⟨S2048x32x768, .f32⟩
  | 87 => ⟨S2048x768, .f32⟩
  | 88 => ⟨S2048x16x1, .i32⟩
  | 89 => ⟨S1x1x32, .i32⟩
  | 90 => ⟨S2048x16x32, .i32⟩
  | 91 => ⟨S2048x16x32, .i32⟩
  | 92 => ⟨S2048x16x32, .i1⟩
  | 93 => ⟨S2048x16x32, .f32⟩
  | 94 => ⟨S_, .f32⟩
  | 95 => ⟨S2048x32, .f32⟩
  | 96 => ⟨S_, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S_, .f32⟩
  | 104 => ⟨S32, .f32⟩
  | 105 => ⟨S32, .f32⟩
  | 106 => ⟨S32, .f32⟩
  | 107 => ⟨S_, .f32⟩
  | 108 => ⟨S_, .f32⟩
  | 109 => ⟨S_, .f32⟩
  | 110 => ⟨S_, .f32⟩
  | 111 => ⟨S2048x4, .f32⟩
  | 112 => ⟨S1x4, .f32⟩
  | 113 => ⟨S2048x4, .f32⟩
  | 114 => ⟨S2048x4, .f32⟩
  | 115 => ⟨S_, .f32⟩
  | 116 => ⟨S2048, .f32⟩
  | 117 => ⟨S_, .f32⟩
  | 118 => ⟨S2048, .f32⟩
  | 119 => ⟨S2048, .f32⟩
  | 120 => ⟨S2048x1, .f32⟩
  | 121 => ⟨S2048x4, .f32⟩
  | 122 => ⟨S2048x4, .f32⟩
  | 123 => ⟨S2048x4, .f32⟩
  | 124 => ⟨S_, .f32⟩
  | 125 => ⟨S2048, .f32⟩
  | 126 => ⟨S2048x1, .f32⟩
  | 127 => ⟨S2048x4, .f32⟩
  | _ => ⟨S2048x768, .f32⟩

abbrev hbmTy0_1 (i : Nat) : BufTy := match i % 128 with
  | 0 => ⟨S2048x4, .f32⟩
  | 1 => ⟨S2048x4x768, .f32⟩
  | 2 => ⟨S1x4x768, .f32⟩
  | 3 => ⟨S2048x4x768, .f32⟩
  | 4 => ⟨S2048x4x768, .f32⟩
  | 5 => ⟨S2048x4x768, .f32⟩
  | 6 => ⟨S2048x4x768, .f32⟩
  | 7 => ⟨S_, .f32⟩
  | 8 => ⟨S2048x4x768, .f32⟩
  | 9 => ⟨S2048x4x768, .f32⟩
  | 10 => ⟨S2048x4x768, .f32⟩
  | 11 => ⟨S_, .f32⟩
  | 12 => ⟨S2048x4x768, .f32⟩
  | 13 => ⟨S2048x4x768, .f32⟩
  | 14 => ⟨S2048x4x768, .f32⟩
  | 15 => ⟨S_, .f32⟩
  | 16 => ⟨S2048x4x768, .f32⟩
  | 17 => ⟨S2048x4x768, .f32⟩
  | 18 => ⟨S_, .f32⟩
  | 19 => ⟨S2048x4x768, .f32⟩
  | 20 => ⟨S2048x4x768, .f32⟩
  | 21 => ⟨S2048x4x768, .f32⟩
  | 22 => ⟨S4x768x2048, .f32⟩
  | 23 => ⟨S2048x4x768, .f32⟩
  | 24 => ⟨S1x4x768, .f32⟩
  | 25 => ⟨S2048x4x768, .f32⟩
  | 26 => ⟨S2048x4x768, .f32⟩
  | 27 => ⟨S2048x768, .f32⟩
  | 28 => ⟨S2048x768, .f32⟩
  | 29 => ⟨S_, .f32⟩
  | 30 => ⟨S_, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_16 : Ref sig .tc := ⟨.hbm, 107, rfl⟩
abbrev main_v69 : Ref sig .tc := ⟨.hbm, 108, rfl⟩
abbrev main_cst_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_cst_19 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_23 : Ref sig .tc := ⟨.hbm, 143, rfl⟩
abbrev main_v98 : Ref sig .tc := ⟨.hbm, 144, rfl⟩
abbrev main_v99 : Ref sig .tc := ⟨.hbm, 145, rfl⟩
abbrev main_cst_24 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩

abbrev nD : Nat := 1
abbrev τ : Topo := Topo.v7x

variable {F : FTy → Type} [FloatOps F]
-- ==== Proof.KernelIdeal.Body0.lean ====
module

public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole-memref store leaves its payload, whatever was there before. -/
theorem read_store {sig : RefSig} {κ : Kind} {sp : Space} {S : Shape} {e : EltTy} {Val : EltTy → Type}
    (v : View sig κ sp S e) {off : Fin S.rank → Nat} (h : off = fun _ => 0)
    (inb : ∀ a, off a + S.size a ≤ S.size a) (f : v.ty.Contents Val) (w : S.Idx → Val e)
    (L : List (View.Piece Val S e)) :
    v.read Val (v.writes Val f ((⟨Rect.unit off S.size inb, w⟩ : View.Piece Val S e) :: L)) = w := by
  subst h
  exact (View.read_writes_of_cover_last v f v f ⟨Rect.whole S, w⟩ L [] fun y => by
    rw [Rect.set_whole]; exact Finset.mem_univ y).trans (View.read_writes_whole v f w)

/-- A whole-memref load reads the memref's contents. -/
theorem readAt_whole {sig : RefSig} {κ : Kind} {sp : Space} {S : Shape} {e : EltTy} {Val : EltTy → Type}
    (v : View sig κ sp S e) {off : Fin S.rank → Nat} (h : off = fun _ => 0)
    (inb : ∀ a, off a + S.size a ≤ S.size a) (f : v.ty.Contents Val) :
    v.readAt Val (Rect.unit off S.size inb).toLoadRect f = v.read Val f := by
  subst h
  funext y
  rw [View.readAt_apply]
  exact congrArg (v.read Val f) (Rect.emb_whole_apply S y)

/-- The zero offsets the printed loads and stores of a matrix carry. -/
theorem off2 : (![0, 0] : Fin 2 → Nat) = fun _ => 0 := by decide

/-- The zero offsets the printed loads of a block of a stack of matrices carry. -/
theorem off3 : (![0, 0, 0] : Fin 3 → Nat) = fun _ => 0 := by decide

/-- The routed selection of the first point, from the tokens, the router's weights and its bias: which
    experts (rows) each token (column) goes to. -/
noncomputable def sel0 (x : Vec F S2048x768 .f32) (gw : Vec F S768x32 .f32) (gb : Vec F S1x32 .f32) : IVec S32x2048 1 :=
  let io : IVec S32x2048 32 := iota .tc S32x2048 32 [0] iota_S32x2048_d0_w32
  let a71 := k0_pay4 x gw gb
  let a81 := k0_pay5 x gw gb
  let a121 := k0_pay13 io a71 a81 (k0_pay6 x gw gb)
  let a123 := k0_pay14 io a71 a81
  let a127 := k0_pay15 io a71 a81
  let a162 := k0_pay21 io a123 a127 32#32
  let a172 := k0_pay22 io a123 a127 32#32
  let a173 := k0_pay23 io a121 a123 a127 32#32
  let ninf : F .f32 := Scalar.ofBits .f32 0xFF800000#32
  k0_pay34 io (k0_pay30 io a162 a172 a173 ninf) (k0_pay31 io a162 a172 ninf) (k0_pay32 io a162 a172 ninf) k0_pay33

/-- The routed gates, as the first point leaves them for the next kernel. -/
noncomputable def gates0 (x : Vec F S2048x768 .f32) (gw : Vec F S768x32 .f32) (gb : Vec F S1x32 .f32) : FVec F S2048x32 .f32 :=
  k0_pay36 (k0_pay2 x gw gb) (sel0 x gw gb) k0_pay35

/-- The routed gates, as the first point leaves them for the later points. -/
noncomputable def keep0 (x : Vec F S2048x768 .f32) (gw : Vec F S768x32 .f32) (gb : Vec F S1x32 .f32) : FVec F S2048x32 .f32 :=
  k0_pay37 (k0_pay2 x gw gb) (sel0 x gw gb) k0_pay35

/-- The auxiliary loss of the first point. -/
noncomputable def aux0 (x : Vec F S2048x768 .f32) (gw : Vec F S768x32 .f32) (gb : Vec F S1x32 .f32) : FVec F S1x1 .f32 :=
  k0_pay38 (k0_pay2 x gw gb) (sel0 x gw gb)

set_option maxHeartbeats 1000000 in
/-- The routed body at a point after the first: the expert's term is added to the output block. -/
theorem body0_later (c : Dev nD) (i : grid0.Coords)
    (arg1 : Memref sig .tc .vmem S2048x768 .f32) (harg1 : arg1.IsWhole)
    (arg2 : Memref sig .tc .vmem S768x32 .f32) (harg2 : arg2.IsWhole)
    (arg3 : Memref sig .tc .vmem S1x32 .f32) (harg3 : arg3.IsWhole)
    (arg4 : Memref sig .tc .vmem S1x768x768 .f32) (harg4 : arg4.IsWhole)
    (arg5 : Memref sig .tc .vmem S1x1x768 .f32) (harg5 : arg5.IsWhole)
    (arg6 : Memref sig .tc .vmem S1x768x768 .f32) (harg6 : arg6.IsWhole)
    (arg7 : Memref sig .tc .vmem S2048x768 .f32) (harg7 : arg7.IsWhole)
    (arg8 : Memref sig .tc .vmem S2048x32 .f32) (harg8 : arg8.IsWhole)
    (arg9 : Memref sig .tc .vmem S1x1 .f32) (harg9 : arg9.IsWhole)
    (arg10 : Memref sig .tc .vmem S2048x32 .f32) (harg10 : arg10.IsWhole)
    (hc1 : ¬ k0_cond1 i = 1#1) (hc2 : ¬ k0_cond2 i = 1#1) (hc3 : k0_cond3 i = 1#1)
    (X1 : Vec F S2048x768 .f32) (X4 : Vec F S1x768x768 .f32) (X5 : Vec F S1x1x768 .f32) (X6 : Vec F S1x768x768 .f32) (X7 : Vec F S2048x768 .f32) (X10 : Vec F S2048x32 .f32) (E : Set ℕ) :
    iprop(owns (c : Thread nD τ) arg1 fullShare X1 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg10 fullShare X10)
      ⊢ wp frame (wpE (defs₀ (F := F)) Variants.none c none) E
        (cc0__expert_i_kernel i arg1 harg1 arg2 harg2 arg3 harg3 arg4 harg4 arg5 harg5 arg6 harg6 arg7 harg7 arg8 harg8 arg9 harg9 arg10 harg10)
        fun _ => (iprop(owns (c : Thread nD τ) arg1 fullShare X1 ∗ owns (c : Thread nD τ) arg4 fullShare X4 ∗ owns (c : Thread nD τ) arg5 fullShare X5 ∗ owns (c : Thread nD τ) arg6 fullShare X6 ∗ owns (c : Thread nD τ) arg7 fullShare (k0_pay1 (k0_pay39 i X1 X10 X4 X5 X6) X7) ∗ owns (c : Thread nD τ) arg10 fullShare X10) : sProp 𝕄) := by
  simp only [cc0__expert_i_kernel_eq_skeleton]; unfold cc0__expert_i_kernel_skel
  simp only [k0_part6_eq_skeleton]
  unfold owns
  iintro ⟨⟨%f1, %hf1, H1⟩, ⟨%f4, %hf4, H4⟩, ⟨%f5, %hf5, H5⟩, ⟨%f6, %hf6, H6⟩, ⟨%f7, %hf7, H7⟩, ⟨%f10, %hf10, H10⟩⟩
  subst hf1
  subst hf4
  subst hf5
  subst hf6
  subst hf7
  subst hf10
  sl_exec (disch := first | sl_exact hc1 | sl_exact hc2 | sl_exact hc3)
  sl_step
  isplitl [H1]
  · iexists _; isplitr; swap
    · iexact H1
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rw [read_store _ off2, ← readAt_whole arg1.view off2 inb_S2048x768_S2048x768_0_0 f1, ← readAt_whole arg4.view off3 inb_S1x768x768_S1x768x768_0_0_0 f4, ← readAt_whole arg5.view off3 inb_S1x1x768_S1x1x768_0_0_0 f5, ← readAt_whole arg6.view off3 inb_S1x768x768_S1x768x768_0_0_0 f6, ← readAt_whole arg7.view off2 inb_S2048x768_S2048x768_0_0 f7, ← readAt_whole arg10.view off2 inb_S2048x32_S2048x32_0_0 f10]; rfl
  iexists _; isplitr; swap
  · iexact H10
  · ipureintro; rfl

set_option maxHeartbeats 1000000 in
/-- The routed body at the first point: it computes the gates and the auxiliary loss, and starts the output block with the first expert's term. -/
theorem body0_first (c : Dev nD) (i : grid0.Coords)
    (arg1 : Memref sig .tc .vmem S2048x768 .f32) (harg1 : arg1.IsWhole)
    (arg2 : Memref sig .tc .vmem S768x32 .f32) (harg2 : arg2.IsWhole)
    (arg3 : Memref sig .tc .vmem S1x32 .f32) (harg3 : arg3.IsWhole)
    (arg4 : Memref sig .tc .vmem S1x768x768 .f32) (harg4 : arg4.IsWhole)
    (arg5 : Memref sig .tc .vmem S1x1x768 .f32) (harg5 : arg5.IsWhole)
    (arg6 : Memref sig .tc .vmem S1x768x768 .f32) (harg6 : arg6.IsWhole)
    (arg7 : Memref sig .tc .vmem S2048x768 .f32) (harg7 : arg7.IsWhole)
    (arg8 : Memref sig .tc .vmem S2048x32 .f32) (harg8 : arg8.IsWhole)
    (arg9 : Memref sig .tc .vmem S1x1 .f32) (harg9 : arg9.IsWhole)
    (arg10 : Memref sig .tc .vmem S2048x32 .f32) (harg10 : arg10.IsWhole)
    (hc1 : k0_cond1 i = 1#1) (hc2 : k0_cond2 i = 1#1) (hc3 : ¬ k0_cond3 i = 1#1)
    (X1 : Vec F S2048x768 .f32) (X2 : Vec F S768x32 .f32) (X3 : Vec F S1x32 .f32) (X4 : Vec F S1x768x768 .f32) (X5 : Vec F S1x1x768 .f32) (X6 : Vec F S1x768x768 .f32) (E : Set ℕ) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X))
      ⊢ wp frame (wpE (defs₀ (F := F)) Variants.none c none) E
        (cc0__expert_i_kernel i arg1 harg1 arg2 harg2 arg3 harg3 arg4 harg4 arg5 harg5 arg6 harg6 arg7 harg7 arg8 harg8 arg9 harg9 arg10 harg10)
        fun _ => (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (k0_pay39 i X1 (keep0 X1 X2 X3) X4 X5 X6) ∗ owns (c : Thread nD τ) arg8 fullShare (gates0 X1 X2 X3) ∗ owns (c : Thread nD τ) arg9 fullShare (aux0 X1 X2 X3) ∗ owns (c : Thread nD τ) arg10 fullShare (keep0 X1 X2 X3)) : sProp 𝕄) := by
  simp only [cc0__expert_i_kernel_eq_skeleton]; unfold cc0__expert_i_kernel_skel
  simp only [k0_part6_eq_skeleton, k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%X7, %f7, %hf7, H7⟩, ⟨%X8, %f8, %hf8, H8⟩, ⟨%X9, %f9, %hf9, H9⟩, ⟨%X10, %f10, %hf10, H10⟩⟩
  subst hf1
  subst hf2
  subst hf3
  subst hf4
  subst hf5
  subst hf6
  subst hf7
  subst hf8
  subst hf9
  subst hf10
  sl_exec (disch := first | sl_exact hc1 | sl_exact hc2 | sl_exact hc3)
  sl_step
  isplitl [H1]
  · iexists _; isplitr; swap
    · iexact H1
    · ipureintro; rfl
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; unfold body0_first.sl.r body0_first.sl.v9 body0_first.sl.H10_1; rw [read_store _ off2, View.readCov_unit_zero _ off2, ← readAt_whole arg1.view off2 inb_S2048x768_S2048x768_0_0 f1, ← readAt_whole arg2.view off2 inb_S768x32_S768x32_0_0 f2, ← readAt_whole arg3.view off2 inb_S1x32_S1x32_0_0 f3, ← readAt_whole arg4.view off3 inb_S1x768x768_S1x768x768_0_0_0 f4, ← readAt_whole arg5.view off3 inb_S1x1x768_S1x1x768_0_0_0 f5, ← readAt_whole arg6.view off3 inb_S1x768x768_S1x768x768_0_0_0 f6]; rfl
  isplitl [H8]
  · iexists _; isplitr; swap
    · iexact H8
    · ipureintro; rw [read_store _ off2, ← readAt_whole arg1.view off2 inb_S2048x768_S2048x768_0_0 f1, ← readAt_whole arg2.view off2 inb_S768x32_S768x32_0_0 f2, ← readAt_whole arg3.view off2 inb_S1x32_S1x32_0_0 f3]; rfl
  isplitl [H9]
  · iexists _; isplitr; swap
    · iexact H9
    · ipureintro; rw [read_store _ off2, ← readAt_whole arg1.view off2 inb_S2048x768_S2048x768_0_0 f1, ← readAt_whole arg2.view off2 inb_S768x32_S768x32_0_0 f2, ← readAt_whole arg3.view off2 inb_S1x32_S1x32_0_0 f3]; rfl
  iexists _; isplitr; swap
  · iexact H10
  · ipureintro; unfold body0_first.sl.H10_1; rw [read_store _ off2, ← readAt_whole arg1.view off2 inb_S2048x768_S2048x768_0_0 f1, ← readAt_whole arg2.view off2 inb_S768x32_S768x32_0_0 f2, ← readAt_whole arg3.view off2 inb_S1x32_S1x32_0_0 f3]; rfl

end Cert.KernelIdeal.Gen

end
-- ==== Proof.KernelIdeal.Body1.lean ====
module

public import proofs.«01_k».proof.Proof.KernelIdeal.Body0
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The dense gates, as the first point leaves them for the later points. -/
noncomputable def keep1 (x : Vec F S2048x768 .f32) (gw : Vec F S768x4 .f32) (gb : Vec F S1x4 .f32) : FVec F S2048x4 .f32 :=
  k1_pay4 x gw gb

set_option maxHeartbeats 1000000 in
/-- The dense body at the first point: it computes the gates, and starts the output block with the routed sum plus the first expert's term. -/
theorem body1_first (c : Dev nD) (i : grid1.Coords)
    (arg1 : Memref sig .tc .vmem S2048x768 .f32) (harg1 : arg1.IsWhole)
    (arg2 : Memref sig .tc .vmem S2048x768 .f32) (harg2 : arg2.IsWhole)
    (arg3 : Memref sig .tc .vmem S768x4 .f32) (harg3 : arg3.IsWhole)
    (arg4 : Memref sig .tc .vmem S1x4 .f32) (harg4 : arg4.IsWhole)
    (arg5 : Memref sig .tc .vmem S1x768x768 .f32) (harg5 : arg5.IsWhole)
    (arg6 : Memref sig .tc .vmem S1x1x768 .f32) (harg6 : arg6.IsWhole)
    (arg7 : Memref sig .tc .vmem S1x768x768 .f32) (harg7 : arg7.IsWhole)
    (arg8 : Memref sig .tc .vmem S2048x32 .f32) (harg8 : arg8.IsWhole)
    (arg9 : Memref sig .tc .vmem S32x768 .f32) (harg9 : arg9.IsWhole)
    (arg10 : Memref sig .tc .vmem S4x768 .f32) (harg10 : arg10.IsWhole)
    (arg11 : Memref sig .tc .vmem S2048x768 .f32) (harg11 : arg11.IsWhole)
    (arg12 : Memref sig .tc .vmem S2048x4 .f32) (harg12 : arg12.IsWhole)
    (hc1 : (Scalar.cmpi .ne (Scalar.extui (Scalar.cmpi .eq (BitVec.ofNat 32 (i 0).val) 0#32)) 0#32) = 1#1) (hc2 : k1_cond2 i = 1#1) (hc3 : ¬ k1_cond3 i = 1#1) (hc4 : ¬ k1_cond4 i = 1#1)
    (X1 : Vec F S2048x768 .f32) (X2 : Vec F S2048x768 .f32) (X3 : Vec F S768x4 .f32) (X4 : Vec F S1x4 .f32) (X5 : Vec F S1x768x768 .f32) (X6 : Vec F S1x1x768 .f32) (X7 : Vec F S1x768x768 .f32) (E : Set ℕ) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ X, owns (c : Thread nD τ) arg11 fullShare X) ∗ (∃ X, owns (c : Thread nD τ) arg12 fullShare X))
      ⊢ wp frame (wpE (defs₀ (F := F)) Variants.none c none) E
        (cc1__expert_s_kernel i arg1 harg1 arg2 harg2 arg3 harg3 arg4 harg4 arg5 harg5 arg6 harg6 arg7 harg7 arg8 harg8 arg9 harg9 arg10 harg10 arg11 harg11 arg12 harg12)
        fun _ => (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg11 fullShare (k1_pay1 (k1_pay5 i X2 (keep1 X2 X3 X4) X5 X6 X7) X1) ∗ owns (c : Thread nD τ) arg12 fullShare (keep1 X2 X3 X4)) : sProp 𝕄) := by
  simp only [cc1__expert_s_kernel_eq_skeleton]; unfold cc1__expert_s_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%X11, %f11, %hf11, H11⟩, ⟨%X12, %f12, %hf12, H12⟩⟩
  subst hf1
  subst hf2
  subst hf3
  subst hf4
  subst hf5
  subst hf6
  subst hf7
  subst hf11
  subst hf12
  sl_exec (disch := first | sl_exact hc1 | sl_exact hc2 | sl_exact hc3 | sl_exact hc4)
  sl_step
  isplitl [H1]
  · iexists _; isplitr; swap
    · iexact H1
    · ipureintro; rfl
  isplitl [H2]
  · iexists _; isplitr; swap
    · iexact H2
    · ipureintro; rfl
  isplitl [H3]
  · iexists _; isplitr; swap
    · iexact H3
    · ipureintro; rfl
  isplitl [H4]
  · iexists _; isplitr; swap
    · iexact H4
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H11]
  · iexists _; isplitr; swap
    · iexact H11
    · ipureintro; rw [read_store _ off2]; unfold body1_first.sl.r body1_first.sl.v9 body1_first.sl.H12_1; rw [View.readCov_unit_zero _ off2, ← readAt_whole arg1.view off2 inb_S2048x768_S2048x768_0_0 f1, ← readAt_whole arg2.view off2 inb_S2048x768_S2048x768_0_0 f2, ← readAt_whole arg3.view off2 inb_S768x4_S768x4_0_0 f3, ← readAt_whole arg4.view off2 inb_S1x4_S1x4_0_0 f4, ← readAt_whole arg5.view off3 inb_S1x768x768_S1x768x768_0_0_0 f5, ← readAt_whole arg6.view off3 inb_S1x1x768_S1x1x768_0_0_0 f6, ← readAt_whole arg7.view off3 inb_S1x768x768_S1x768x768_0_0_0 f7]; rfl
  iexists _; isplitr; swap
  · iexact H12
  · ipureintro; unfold body1_first.sl.H12_1; rw [read_store _ off2, ← readAt_whole arg2.view off2 inb_S2048x768_S2048x768_0_0 f2, ← readAt_whole arg3.view off2 inb_S768x4_S768x4_0_0 f3, ← readAt_whole arg4.view off2 inb_S1x4_S1x4_0_0 f4]; rfl

set_option maxHeartbeats 1000000 in
/-- The dense body at a point between the first and the last: the expert's term is added to the output block. -/
theorem body1_mid (c : Dev nD) (i : grid1.Coords)
    (arg1 : Memref sig .tc .vmem S2048x768 .f32) (harg1 : arg1.IsWhole)
    (arg2 : Memref sig .tc .vmem S2048x768 .f32) (harg2 : arg2.IsWhole)
    (arg3 : Memref sig .tc .vmem S768x4 .f32) (harg3 : arg3.IsWhole)
    (arg4 : Memref sig .tc .vmem S1x4 .f32) (harg4 : arg4.IsWhole)
    (arg5 : Memref sig .tc .vmem S1x768x768 .f32) (harg5 : arg5.IsWhole)
    (arg6 : Memref sig .tc .vmem S1x1x768 .f32) (harg6 : arg6.IsWhole)
    (arg7 : Memref sig .tc .vmem S1x768x768 .f32) (harg7 : arg7.IsWhole)
    (arg8 : Memref sig .tc .vmem S2048x32 .f32) (harg8 : arg8.IsWhole)
    (arg9 : Memref sig .tc .vmem S32x768 .f32) (harg9 : arg9.IsWhole)
    (arg10 : Memref sig .tc .vmem S4x768 .f32) (harg10 : arg10.IsWhole)
    (arg11 : Memref sig .tc .vmem S2048x768 .f32) (harg11 : arg11.IsWhole)
    (arg12 : Memref sig .tc .vmem S2048x4 .f32) (harg12 : arg12.IsWhole)
    (hc1 : ¬ (Scalar.cmpi .ne (Scalar.extui (Scalar.cmpi .eq (BitVec.ofNat 32 (i 0).val) 0#32)) 0#32) = 1#1) (hc2 : ¬ k1_cond2 i = 1#1) (hc3 : k1_cond3 i = 1#1) (hc4 : ¬ k1_cond4 i = 1#1)
    (X2 : Vec F S2048x768 .f32) (X5 : Vec F S1x768x768 .f32) (X6 : Vec F S1x1x768 .f32) (X7 : Vec F S1x768x768 .f32) (X11 : Vec F S2048x768 .f32) (X12 : Vec F S2048x4 .f32) (E : Set ℕ) :
    iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg11 fullShare X11 ∗ owns (c : Thread nD τ) arg12 fullShare X12)
      ⊢ wp frame (wpE (defs₀ (F := F)) Variants.none c none) E
        (cc1__expert_s_kernel i arg1 harg1 arg2 harg2 arg3 harg3 arg4 harg4 arg5 harg5 arg6 harg6 arg7 harg7 arg8 harg8 arg9 harg9 arg10 harg10 arg11 harg11 arg12 harg12)
        fun _ => (iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg11 fullShare (k1_pay2 (k1_pay5 i X2 X12 X5 X6 X7) X11) ∗ owns (c : Thread nD τ) arg12 fullShare X12) : sProp 𝕄) := by
  simp only [cc1__expert_s_kernel_eq_skeleton]; unfold cc1__expert_s_kernel_skel
  simp only [k1_part1_eq_skeleton]
  unfold owns
  iintro ⟨⟨%f2, %hf2, H2⟩, ⟨%f5, %hf5, H5⟩, ⟨%f6, %hf6, H6⟩, ⟨%f7, %hf7, H7⟩, ⟨%f11, %hf11, H11⟩, ⟨%f12, %hf12, H12⟩⟩
  subst hf2
  subst hf5
  subst hf6
  subst hf7
  subst hf11
  subst hf12
  sl_exec (disch := first | sl_exact hc1 | sl_exact hc2 | sl_exact hc3 | sl_exact hc4)
  sl_step
  isplitl [H2]
  · iexists _; isplitr; swap
    · iexact H2
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H11]
  · iexists _; isplitr; swap
    · iexact H11
    · ipureintro; rw [read_store _ off2, ← readAt_whole arg2.view off2 inb_S2048x768_S2048x768_0_0 f2, ← readAt_whole arg5.view off3 inb_S1x768x768_S1x768x768_0_0_0 f5, ← readAt_whole arg6.view off3 inb_S1x1x768_S1x1x768_0_0_0 f6, ← readAt_whole arg7.view off3 inb_S1x768x768_S1x768x768_0_0_0 f7, ← readAt_whole arg11.view off2 inb_S2048x768_S2048x768_0_0 f11, ← readAt_whole arg12.view off2 inb_S2048x4_S2048x4_0_0 f12]; rfl
  iexists _; isplitr; swap
  · iexact H12
  · ipureintro; rfl

set_option maxHeartbeats 1000000 in
/-- The dense body at the last point: the expert's term is added to the output block, then the two bias terms. -/
theorem body1_last (c : Dev nD) (i : grid1.Coords)
    (arg1 : Memref sig .tc .vmem S2048x768 .f32) (harg1 : arg1.IsWhole)
    (arg2 : Memref sig .tc .vmem S2048x768 .f32) (harg2 : arg2.IsWhole)
    (arg3 : Memref sig .tc .vmem S768x4 .f32) (harg3 : arg3.IsWhole)
    (arg4 : Memref sig .tc .vmem S1x4 .f32) (harg4 : arg4.IsWhole)
    (arg5 : Memref sig .tc .vmem S1x768x768 .f32) (harg5 : arg5.IsWhole)
    (arg6 : Memref sig .tc .vmem S1x1x768 .f32) (harg6 : arg6.IsWhole)
    (arg7 : Memref sig .tc .vmem S1x768x768 .f32) (harg7 : arg7.IsWhole)
    (arg8 : Memref sig .tc .vmem S2048x32 .f32) (harg8 : arg8.IsWhole)
    (arg9 : Memref sig .tc .vmem S32x768 .f32) (harg9 : arg9.IsWhole)
    (arg10 : Memref sig .tc .vmem S4x768 .f32) (harg10 : arg10.IsWhole)
    (arg11 : Memref sig .tc .vmem S2048x768 .f32) (harg11 : arg11.IsWhole)
    (arg12 : Memref sig .tc .vmem S2048x4 .f32) (harg12 : arg12.IsWhole)
    (hc1 : ¬ (Scalar.cmpi .ne (Scalar.extui (Scalar.cmpi .eq (BitVec.ofNat 32 (i 0).val) 0#32)) 0#32) = 1#1) (hc2 : ¬ k1_cond2 i = 1#1) (hc3 : k1_cond3 i = 1#1) (hc4 : k1_cond4 i = 1#1)
    (X2 : Vec F S2048x768 .f32) (X5 : Vec F S1x768x768 .f32) (X6 : Vec F S1x1x768 .f32) (X7 : Vec F S1x768x768 .f32) (X8 : Vec F S2048x32 .f32) (X9 : Vec F S32x768 .f32) (X10 : Vec F S4x768 .f32) (X11 : Vec F S2048x768 .f32) (X12 : Vec F S2048x4 .f32) (E : Set ℕ) :
    iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)
      ⊢ wp frame (wpE (defs₀ (F := F)) Variants.none c none) E
        (cc1__expert_s_kernel i arg1 harg1 arg2 harg2 arg3 harg3 arg4 harg4 arg5 harg5 arg6 harg6 arg7 harg7 arg8 harg8 arg9 harg9 arg10 harg10 arg11 harg11 arg12 harg12)
        fun _ => (iprop(owns (c : Thread nD τ) arg2 fullShare X2 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare (k1_pay3 (k1_pay2 (k1_pay5 i X2 X12 X5 X6 X7) X11) X8 X9 X12 X10) ∗ owns (c : Thread nD τ) arg12 fullShare X12) : sProp 𝕄) := by
  simp only [cc1__expert_s_kernel_eq_skeleton]; unfold cc1__expert_s_kernel_skel
  simp only [k1_part1_eq_skeleton]
  unfold owns
  iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  subst hf2
  subst hf5
  subst hf6
  subst hf7
  subst hf8
  subst hf9
  subst hf10
  subst hf11
  subst hf12
  sl_exec (disch := first | sl_exact hc1 | sl_exact hc2 | sl_exact hc3 | sl_exact hc4)
  sl_step
  isplitl [H2]
  · iexists _; isplitr; swap
    · iexact H2
    · ipureintro; rfl
  isplitl [H5]
  · iexists _; isplitr; swap
    · iexact H5
    · ipureintro; rfl
  isplitl [H6]
  · iexists _; isplitr; swap
    · iexact H6
    · ipureintro; rfl
  isplitl [H7]
  · iexists _; isplitr; swap
    · iexact H7
    · ipureintro; rfl
  isplitl [H8]
  · iexists _; isplitr; swap
    · iexact H8
    · ipureintro; rfl
  isplitl [H9]
  · iexists _; isplitr; swap
    · iexact H9
    · ipureintro; rfl
  isplitl [H10]
  · iexists _; isplitr; swap
    · iexact H10
    · ipureintro; rfl
  isplitl [H11]
  · iexists _; isplitr; swap
    · iexact H11
    · ipureintro; rw [read_store _ off2]; unfold body1_last.sl.v43 body1_last.sl.H11_1; rw [View.readCov_unit_zero _ off2, ← readAt_whole arg2.view off2 inb_S2048x768_S2048x768_0_0 f2, ← readAt_whole arg5.view off3 inb_S1x768x768_S1x768x768_0_0_0 f5, ← readAt_whole arg6.view off3 inb_S1x1x768_S1x1x768_0_0_0 f6, ← readAt_whole arg7.view off3 inb_S1x768x768_S1x768x768_0_0_0 f7, ← readAt_whole arg8.view off2 inb_S2048x32_S2048x32_0_0 f8, ← readAt_whole arg9.view off2 inb_S32x768_S32x768_0_0 f9, ← readAt_whole arg10.view off2 inb_S4x768_S4x768_0_0 f10, ← readAt_whole arg11.view off2 inb_S2048x768_S2048x768_0_0 f11, ← readAt_whole arg12.view off2 inb_S2048x4_S2048x4_0_0 f12]; rfl
  iexists _; isplitr; swap
  · iexact H12
  · ipureintro; rfl

end Cert.KernelIdeal.Gen

end
-- ==== Proof.KernelIdeal.Data0.lean ====
module

public import proofs.«01_k».proof.Proof.Gen.KernelIdeal.Launch
public import proofs.«01_k».proof.Proof.KernelIdeal.Body0
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The first grid point of the first kernel. -/
abbrev first0 : Fin cfg0.N := ⟨0, by rw [show cfg0.N = 32 from N_0]; decide⟩

/-- The block window `w` of the first kernel fetches at point `t`, read from the array as the kernel finds it. -/
def blk0 (c : Dev nD) (w : Fin cfg0.W) (t : Fin cfg0.N) :=
  ((cfg0.win w).blk t).view.read (Elt F) (V c (Proc.devRef .tc (Pipeline.arrRef spec0 w)))

/-- The gates the first point computes from the whole input and the gate's weights. -/
def gatesC0 (c : Dev nD) : Vec F S2048x32 .f32 :=
  gates0 (blk0 V c 0 first0) (blk0 V c 1 first0) (blk0 V c 2 first0)

/-- The copy of the gates the kernel keeps in its scratch buffer. -/
def keepC0 (c : Dev nD) : Vec F S2048x32 .f32 :=
  keep0 (blk0 V c 0 first0) (blk0 V c 1 first0) (blk0 V c 2 first0)

/-- The auxiliary loss the first point computes. -/
def auxC0 (c : Dev nD) : Vec F S1x1 .f32 :=
  aux0 (blk0 V c 0 first0) (blk0 V c 1 first0) (blk0 V c 2 first0)

/-- The term of the output that point `t` computes: its expert applied to the input, weighted by the gates. -/
def term0 (c : Dev nD) (t : Fin cfg0.N) : Vec F S2048x768 .f32 :=
  k0_pay39 (grid0.coords t) (blk0 V c 0 t) (keepC0 V c) (blk0 V c 3 t) (blk0 V c 4 t) (blk0 V c 5 t)

/-- The output block after point `n`: the first point stores its term, every later one adds its own. -/
def acc0 (c : Dev nD) : ℕ → Vec F S2048x768 .f32
  | 0 => term0 V c first0
  | n + 1 => if h : n + 1 < cfg0.N then k0_pay1 (term0 V c ⟨n + 1, h⟩) (acc0 c n) else acc0 c n

/-- What the kernel owns of the scratch space besides its own scratch buffer, as a way back to the whole of it. -/
def rest0 (c : Dev nD) : sProp 𝕄 :=
  iprop((∃ X, owns (c : Thread nD τ) (Memref.whole cc0_scratch0) fullShare X) -∗ Pipeline.scopedRest spec0 c)

/-- The scratch space is the kernel's scratch buffer and the rest. -/
theorem scoped0_split (c : Dev nD) :
    (Pipeline.scopedRest spec0 c : sProp 𝕄)
      ⊢ iprop((∃ X, owns (c : Thread nD τ) (Memref.whole cc0_scratch0) fullShare X) ∗ rest0 c) := by
  unfold rest0
  rw [scopedRest0_eq]
  simp only [owns_whole]
  iintro ⟨H0, HR⟩
  isplitl [H0]; · iexact H0
  iintro H
  isplitl [H]; · iexact H
  iexact HR

/-- What is held between points: before the first the whole scratch space at anything, afterwards the kept gates in the
    scratch buffer and the rest. -/
def PhiS0 (c : Dev nD) : ℕ → sProp 𝕄
  | 0 => Pipeline.scopedRest spec0 c
  | _ + 1 => iprop(owns (c : Thread nD τ) (Memref.whole cc0_scratch0) fullShare (keepC0 V c) ∗ rest0 c)

theorem PhiS0_pos (c : Dev nD) (n : ℕ) (hz : n ≠ 0) :
    PhiS0 V c n = iprop(owns (c : Thread nD τ) (Memref.whole cc0_scratch0) fullShare (keepC0 V c) ∗ rest0 c) := by
  cases n with
  | zero => exact absurd rfl hz
  | succ n => rfl

/-- The proof data of the first kernel: the arrays as it finds them, what each buffer holds after each point. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => acc0 V c t.val
    | ⟨7, _⟩ => gatesC0 V c
    | ⟨8, _⟩ => auxC0 V c
  Φ t := PhiS0 V c t.val
  q _ := fullShare
  owed _ := 0

theorem Phi0_castSucc (c : Dev nD) (t : Fin cfg0.N) : (dat0 V c).Φ t.castSucc = PhiS0 V c t.val := rfl

theorem Phi0_succ (c : Dev nD) (t : Fin cfg0.N) :
    (dat0 V c).Φ t.succ = iprop(owns (c : Thread nD τ) (Memref.whole cc0_scratch0) fullShare (keepC0 V c) ∗ rest0 c) := rfl

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = acc0 V c t.val := by dsimp only [dat0]
theorem after0_7 (c : Dev nD) (t : Fin cfg0.N) : (dat0 V c).after 7 t = gatesC0 V c := by dsimp only [dat0]
theorem after0_8 (c : Dev nD) (t : Fin cfg0.N) : (dat0 V c).after 8 t = auxC0 V c := by dsimp only [dat0]

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rfl) t d).trans
    (by unfold Dat.fetched Dat.blockOf blk0; rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rfl) t d).trans
    (by unfold Dat.fetched Dat.blockOf blk0; rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rfl) t d).trans
    (by unfold Dat.fetched Dat.blockOf blk0; rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rfl) t d).trans
    (by unfold Dat.fetched Dat.blockOf blk0; rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rfl) t d).trans
    (by unfold Dat.fetched Dat.blockOf blk0; rfl)
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rfl) t d).trans
    (by unfold Dat.fetched Dat.blockOf blk0; rfl)

/-! The conditions of the body, and which windows it leaves idle, from the point's number. -/

theorem cond0_1 : ∀ t : Fin cfg0.N, k0_cond1 (grid0.coords t) = 1#1 ↔ t.val = 0 :=
  (by decide +kernel : ∀ t : Fin grid0.N, k0_cond1 (grid0.coords t) = 1#1 ↔ t.val = 0)
theorem cond0_2 : ∀ t : Fin cfg0.N, k0_cond2 (grid0.coords t) = 1#1 ↔ t.val = 0 :=
  (by decide +kernel : ∀ t : Fin grid0.N, k0_cond2 (grid0.coords t) = 1#1 ↔ t.val = 0)
theorem cond0_3 : ∀ t : Fin cfg0.N, k0_cond3 (grid0.coords t) = 1#1 ↔ ¬ t.val = 0 :=
  (by decide +kernel : ∀ t : Fin grid0.N, k0_cond3 (grid0.coords t) = 1#1 ↔ ¬ t.val = 0)
theorem live0_6 : ∀ t : Fin cfg0.N, cfg0.idle 6 (grid0.coords t) = false := by decide +kernel
theorem idle0_7 : ∀ t : Fin cfg0.N, cfg0.idle 7 (grid0.coords t) = !(decide (t.val = 0)) := by decide +kernel
theorem idle0_8 : ∀ t : Fin cfg0.N, cfg0.idle 8 (grid0.coords t) = !(decide (t.val = 0)) := by decide +kernel

/-- Before which points an output's buffer holds nothing of the kernel's: the first only, up to the end. -/
def freshTab0 : ℕ → Bool
  | 0 => true
  | n + 1 => (0x80000000 : ℕ).testBit n

theorem fresh0_6 (t : Fin cfg0.N) (h : ¬ t.val = 0) : cfg0.fresh 6 t.val = false := by
  rw [Pipeline.Cfg.fresh_tab cfg0 6 freshTab0 rfl (by decide +kernel) t.val (Nat.le_of_lt t.isLt)]
  revert t; decide +kernel
theorem carry0_6 (c : Dev nD) : ∀ (t : Fin cfg0.N) (_ : t.val ≠ 0), cfg0.idle 6 (cfg0.grid.coords t) = true →
    cfg0.fresh 6 t.val = false → (dat0 V c).after 6 t = (dat0 V c).after 6 ⟨t.val - 1, by omega⟩ := by
  intro t _ hi _
  rw [show cfg0.idle 6 (cfg0.grid.coords t) = false from live0_6 t] at hi
  exact absurd hi Bool.false_ne_true
/-- At a later point the output's buffer holds what the points before accumulated. -/
theorem before0_6 (c : Dev nD) (t : Fin cfg0.N) (h : ¬ t.val = 0) (d) :
    (dat0 V c).before 6 t d = acc0 V c (t.val - 1) := by
  rw [Dat.before_out_traj _ 6 rfl (fun _ _ => rfl) (carry0_6 V c) t.val t rfl d,
    if_neg (by rw [fresh0_6 t h]; exact Bool.false_ne_true)]
  dsimp only [dat0]
theorem fresh0_7 (t : Fin cfg0.N) (h : ¬ t.val = 0) : cfg0.fresh 7 t.val = false := by
  rw [Pipeline.Cfg.fresh_tab cfg0 7 freshTab0 rfl (by decide +kernel) t.val (Nat.le_of_lt t.isLt)]
  revert t; decide +kernel
/-- At a later point the buffer of output 7 still holds what the first point stored. -/
theorem before0_7 (c : Dev nD) (t : Fin cfg0.N) (h : ¬ t.val = 0) (d) :
    (dat0 V c).before 7 t d = gatesC0 V c := by
  rw [Dat.before_out_traj _ 7 rfl (fun _ _ => rfl) (fun t _ _ _ => by rw [after0_7, after0_7]) t.val t rfl d,
    if_neg (by rw [fresh0_7 t h]; exact Bool.false_ne_true)]
  dsimp only [dat0]
theorem fresh0_8 (t : Fin cfg0.N) (h : ¬ t.val = 0) : cfg0.fresh 8 t.val = false := by
  rw [Pipeline.Cfg.fresh_tab cfg0 8 freshTab0 rfl (by decide +kernel) t.val (Nat.le_of_lt t.isLt)]
  revert t; decide +kernel
/-- At a later point the buffer of output 8 still holds what the first point stored. -/
theorem before0_8 (c : Dev nD) (t : Fin cfg0.N) (h : ¬ t.val = 0) (d) :
    (dat0 V c).before 8 t d = auxC0 V c := by
  rw [Dat.before_out_traj _ 8 rfl (fun _ _ => rfl) (fun t _ _ _ => by rw [after0_8, after0_8]) t.val t rfl d,
    if_neg (by rw [fresh0_8 t h]; exact Bool.false_ne_true)]
  dsimp only [dat0]

theorem acc0_pos (c : Dev nD) (t : Fin cfg0.N) (h : ¬ t.val = 0) :
    acc0 V c t.val = k0_pay1 (term0 V c t) (acc0 V c (t.val - 1)) := by
  obtain ⟨n, hn⟩ := t
  cases n with
  | zero => exact absurd rfl h
  | succ n => simp only [acc0, Nat.add_sub_cancel]; rw [dif_pos hn]

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body returns at point `t`. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

theorem leaves0_0 (c : Dev nD) (t : Fin cfg0.N) :
    ((dat0 V c).leavesExact 0 t : sProp 𝕄) = owns (c : Thread nD τ) (st0_0 t) fullShare ((dat0 V c).after 0 t) := by
  unfold Dat.leavesExact; rw [(rfl : cfg0.idle 0 (grid0.coords t) = false)]
theorem leaves0_1 (c : Dev nD) (t : Fin cfg0.N) :
    ((dat0 V c).leavesExact 1 t : sProp 𝕄) = owns (c : Thread nD τ) (st0_1 t) fullShare ((dat0 V c).after 1 t) := by
  unfold Dat.leavesExact; rw [(rfl : cfg0.idle 1 (grid0.coords t) = false)]
theorem leaves0_2 (c : Dev nD) (t : Fin cfg0.N) :
    ((dat0 V c).leavesExact 2 t : sProp 𝕄) = owns (c : Thread nD τ) (st0_2 t) fullShare ((dat0 V c).after 2 t) := by
  unfold Dat.leavesExact; rw [(rfl : cfg0.idle 2 (grid0.coords t) = false)]
theorem leaves0_3 (c : Dev nD) (t : Fin cfg0.N) :
    ((dat0 V c).leavesExact 3 t : sProp 𝕄) = owns (c : Thread nD τ) (st0_3 t) fullShare ((dat0 V c).after 3 t) := by
  unfold Dat.leavesExact; rw [(rfl : cfg0.idle 3 (grid0.coords t) = false)]
theorem leaves0_4 (c : Dev nD) (t : Fin cfg0.N) :
    ((dat0 V c).leavesExact 4 t : sProp 𝕄) = owns (c : Thread nD τ) (st0_4 t) fullShare ((dat0 V c).after 4 t) := by
  unfold Dat.leavesExact; rw [(rfl : cfg0.idle 4 (grid0.coords t) = false)]
theorem leaves0_5 (c : Dev nD) (t : Fin cfg0.N) :
    ((dat0 V c).leavesExact 5 t : sProp 𝕄) = owns (c : Thread nD τ) (st0_5 t) fullShare ((dat0 V c).after 5 t) := by
  unfold Dat.leavesExact; rw [(rfl : cfg0.idle 5 (grid0.coords t) = false)]
theorem leaves0_6 (c : Dev nD) (t : Fin cfg0.N) :
    ((dat0 V c).leavesExact 6 t : sProp 𝕄) = owns (c : Thread nD τ) (st0_6 t) fullShare ((dat0 V c).after 6 t) := by
  unfold Dat.leavesExact; rw [live0_6 t]
theorem leaves0_7 (c : Dev nD) (t : Fin cfg0.N) :
    owns (c : Thread nD τ) (st0_7 t) fullShare ((dat0 V c).after 7 t) ⊢ ((dat0 V c).leavesExact 7 t : sProp 𝕄) := by
  unfold Dat.leavesExact
  by_cases h : t.val = 0
  · rw [idle0_7 t, decide_eq_true h]; exact .rfl
  · rw [idle0_7 t, decide_eq_false h, Bool.not_false]
    cases (cfg0.win 7).flush t
    · iintro H; iexists ((dat0 V c).after 7 t)
      rw [before0_7 V c t h, after0_7]; iexact H
    · exact .rfl
theorem leaves0_8 (c : Dev nD) (t : Fin cfg0.N) :
    owns (c : Thread nD τ) (st0_8 t) fullShare ((dat0 V c).after 8 t) ⊢ ((dat0 V c).leavesExact 8 t : sProp 𝕄) := by
  unfold Dat.leavesExact
  by_cases h : t.val = 0
  · rw [idle0_8 t, decide_eq_true h]; exact .rfl
  · rw [idle0_8 t, decide_eq_false h, Bool.not_false]
    cases (cfg0.win 8).flush t
    · iintro H; iexists ((dat0 V c).after 8 t)
      rw [before0_8 V c t h, after0_8]; iexact H
    · exact .rfl

/-- A triple framed by a resource the run does not touch. -/
theorem triple_frame {p : Prog (TpuEff nD τ sig (Elt F) Λ₀ .tc) PUnit} {c : Dev nD} {E : Set ℕ} {P Pb R : sProp 𝕄}
    {Q Qb : PUnit → sProp 𝕄} (hb : Pb ⊢ wp frame (wpE (defs₀ (F := F)) Variants.none c none) E p Qb)
    (hin : P ⊢ iprop(Pb ∗ R)) (hout : ∀ a, iprop(Qb a ∗ R) ⊢ Q a) :
    P ⊢ wp frame (wpE (defs₀ (F := F)) Variants.none c none) E p Q :=
  hin.trans ((sep_mono hb .rfl).trans ((wp_frame_r _ _ _).trans (wp_mono _ _ _ hout)))

set_option maxHeartbeats 4000000 in
/-- The body at the first point: it stores the gates, the loss and its term. -/
theorem sound0_first (c : Dev nD) : pre0 V c first0 ⊢
    wp frame (wpE (defs₀ (F := F)) Variants.none c none) Set.univ (bodyAt0 first0) (fun _ => post0 V c first0) := by
  unfold pre0 post0 bodyAt0
  simp only [before0_0, before0_1, before0_2, before0_3, before0_4, before0_5, leaves0_0, leaves0_1, leaves0_2, leaves0_3, leaves0_4, leaves0_5, leaves0_6, after0_0, after0_1, after0_2, after0_3, after0_4, after0_5, after0_6]
  rw [show (dat0 V c).owesAt () first0.succ = (dat0 V c).owesAt () first0.castSucc from rfl, Phi0_succ, Phi0_castSucc]
  rw [show PhiS0 V c first0.val = Pipeline.scopedRest spec0 c from rfl]
  refine triple_frame (R := iprop(rest0 c ∗ (dat0 V c).owesAt () first0.castSucc)) (body0_first c (grid0.coords first0) (win0_0.stage (cfg0.slots first0 0)) (hstage0_0 ((cfg0.slots first0 0).cast nbuf0_0)) (win0_1.stage (cfg0.slots first0 1)) (hstage0_1 ((cfg0.slots first0 1).cast nbuf0_1)) (win0_2.stage (cfg0.slots first0 2)) (hstage0_2 ((cfg0.slots first0 2).cast nbuf0_2)) (win0_3.stage (cfg0.slots first0 3)) (hstage0_3 ((cfg0.slots first0 3).cast nbuf0_3)) (win0_4.stage (cfg0.slots first0 4)) (hstage0_4 ((cfg0.slots first0 4).cast nbuf0_4)) (win0_5.stage (cfg0.slots first0 5)) (hstage0_5 ((cfg0.slots first0 5).cast nbuf0_5)) (win0_6.stage (cfg0.slots first0 6)) (hstage0_6 ((cfg0.slots first0 6).cast nbuf0_6)) (win0_7.stage (cfg0.slots first0 7)) (hstage0_7 ((cfg0.slots first0 7).cast nbuf0_7)) (win0_8.stage (cfg0.slots first0 8)) (hstage0_8 ((cfg0.slots first0 8).cast nbuf0_8)) (Memref.whole cc0_scratch0) (Memref.isWhole_whole _)
    ((cond0_1 first0).mpr rfl) ((cond0_2 first0).mpr rfl) (fun hc => (cond0_3 first0).mp hc rfl)
    (blk0 V c 0 first0) (blk0 V c 1 first0) (blk0 V c 2 first0) (blk0 V c 3 first0) (blk0 V c 4 first0) (blk0 V c 5 first0) Set.univ) ?_ ?_
  · iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS' := (scoped0_split (F := F) c) $$ HS
    icases HS' with ⟨HX, HR⟩
    isplitr [HR Ho]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexact HX
    isplitl [HR]; · iexact HR
    iexact Ho
  · intro _
    iintro ⟨⟨H0, H1, H2, H3, H4, H5, H6, H7, H8, HX⟩, HR, Ho⟩
    isplitl [HX HR]
    · isplitl [HX]; · iexact HX
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves0_7 V c first0); rw [after0_7]; iexact H7
    iapply (leaves0_8 V c first0); rw [after0_8]; iexact H8

set_option maxHeartbeats 4000000 in
/-- The body at a later point: it adds its term to the output. -/
theorem sound0_later (c : Dev nD) (t : Fin cfg0.N) (h : ¬ t.val = 0) : pre0 V c t ⊢
    wp frame (wpE (defs₀ (F := F)) Variants.none c none) Set.univ (bodyAt0 t) (fun _ => post0 V c t) := by
  unfold pre0 post0 bodyAt0
  simp only [before0_0, before0_1, before0_2, before0_3, before0_4, before0_5, leaves0_0, leaves0_1, leaves0_2, leaves0_3, leaves0_4, leaves0_5, leaves0_6, after0_0, after0_1, after0_2, after0_3, after0_4, after0_5, after0_6, before0_6 V c t h, before0_7 V c t h, before0_8 V c t h, acc0_pos V c t h]
  rw [show (dat0 V c).owesAt () t.succ = (dat0 V c).owesAt () t.castSucc from rfl, Phi0_succ, Phi0_castSucc, PhiS0_pos V c _ h]
  refine triple_frame (R := iprop(rest0 c ∗ (dat0 V c).owesAt () t.castSucc ∗ owns (c : Thread nD τ) (st0_1 t) fullShare (blk0 V c 1 t) ∗ owns (c : Thread nD τ) (st0_2 t) fullShare (blk0 V c 2 t)
      ∗ owns (c : Thread nD τ) (st0_7 t) fullShare (gatesC0 V c) ∗ owns (c : Thread nD τ) (st0_8 t) fullShare (auxC0 V c))) (body0_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    (fun hc => h ((cond0_1 t).mp hc)) (fun hc => h ((cond0_2 t).mp hc)) ((cond0_3 t).mpr h)
    (blk0 V c 0 t) (blk0 V c 3 t) (blk0 V c 4 t) (blk0 V c 5 t) (acc0 V c (t.val - 1)) (keepC0 V c) Set.univ) ?_ ?_
  · iintro ⟨⟨HX, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    isplitl [H0 H3 H4 H5 H6 HX]
    · isplitl [H0]; · iexact H0
      isplitl [H3]; · iexact H3
      isplitl [H4]; · iexact H4
      isplitl [H5]; · iexact H5
      isplitl [H6]; · iexact H6
      iexact HX
    isplitl [HR]; · iexact HR
    isplitl [Ho]; · iexact Ho
    isplitl [H1]; · iexact H1
    isplitl [H2]; · iexact H2
    isplitl [H7]; · iexact H7
    iexact H8
  · intro _
    iintro ⟨⟨H0, H3, H4, H5, H6, HX⟩, HR, Ho, H1, H2, H7, H8⟩
    isplitl [HX HR]
    · isplitl [HX]; · iexact HX
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves0_7 V c t); rw [after0_7]; iexact H7
    iapply (leaves0_8 V c t); rw [after0_8]; iexact H8

/-- The kernel's row of the definitions, at the point's buffers. -/
theorem row0 (t : Fin cfg0.N) : (defs₀ (F := F)) .tc cfg0.body (cfg0.bodyArgs t (cfg0.slots t)) = bodyAt0 t := by
  unfold defs₀; rw [Defs.onTc_tc]

/-- The body at any point. -/
theorem sound0 (c : Dev nD) (t : Fin cfg0.N) : pre0 V c t ⊢
    wp frame (wpE (defs₀ (F := F)) Variants.none c none) Set.univ (bodyAt0 t) (fun _ => post0 V c t) := by
  by_cases h : t.val = 0
  · obtain rfl : t = first0 := Fin.ext h
    exact sound0_first V c
  · exact sound0_later V c t h

/-- The body obligation of the first kernel. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.KernelIdeal.Gen

end
-- ==== Proof.KernelIdeal.Data1.lean ====
module

public import proofs.«01_k».proof.Proof.Gen.KernelIdeal.Launch
public import proofs.«01_k».proof.Proof.KernelIdeal.Body1
public import proofs.«01_k».proof.Proof.KernelIdeal.Data0
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The first grid point of the second kernel. -/
abbrev first1 : Fin cfg1.N := ⟨0, by rw [show cfg1.N = 4 from N_1]; decide⟩

/-- The block window `w` of the second kernel fetches at point `t`, read from the array as the kernel finds it. -/
def blk1 (c : Dev nD) (w : Fin cfg1.W) (t : Fin cfg1.N) :=
  ((cfg1.win w).blk t).view.read (Elt F) (V c (Proc.devRef .tc (Pipeline.arrRef spec1 w)))

/-- The gates the first point computes and keeps in the scratch buffer. -/
def keepC1 (c : Dev nD) : Vec F S2048x4 .f32 :=
  keep1 (blk1 V c 1 first1) (blk1 V c 2 first1) (blk1 V c 3 first1)

/-- The term of the output that point `t` computes: its expert applied to the input, weighted by the gates. -/
def term1 (c : Dev nD) (t : Fin cfg1.N) : Vec F S2048x768 .f32 :=
  k1_pay5 (grid1.coords t) (blk1 V c 1 t) (keepC1 V c) (blk1 V c 4 t) (blk1 V c 5 t) (blk1 V c 6 t)

/-- The output block after point `n`, the last point's bias not yet added: the first point adds its term to what the
    first kernel left, every later one adds its own. -/
def sum1 (c : Dev nD) : ℕ → Vec F S2048x768 .f32
  | 0 => k1_pay1 (term1 V c first1) (blk1 V c 0 first1)
  | n + 1 => if h : n + 1 < cfg1.N then k1_pay2 (term1 V c ⟨n + 1, h⟩) (sum1 c n) else sum1 c n

/-- The output block after point `n`: the last point also adds the gated biases of both groups of experts. -/
def acc1 (c : Dev nD) (n : ℕ) : Vec F S2048x768 .f32 :=
  if h : n = 3 then
    k1_pay3 (sum1 V c n) (blk1 V c 7 ⟨n, by rw [show cfg1.N = 4 from N_1]; omega⟩)
      (blk1 V c 8 ⟨n, by rw [show cfg1.N = 4 from N_1]; omega⟩) (keepC1 V c)
      (blk1 V c 9 ⟨n, by rw [show cfg1.N = 4 from N_1]; omega⟩)
  else sum1 V c n

/-- What the kernel owns of the scratch space besides its own scratch buffer, as a way back to the whole of it. -/
def rest1 (c : Dev nD) : sProp 𝕄 :=
  iprop((∃ X, owns (c : Thread nD τ) (Memref.whole cc1_scratch0) fullShare X) -∗ Pipeline.scopedRest spec1 c)

/-- The scratch space is the kernel's scratch buffer and the rest. -/
theorem scoped1_split (c : Dev nD) :
    (Pipeline.scopedRest spec1 c : sProp 𝕄)
      ⊢ iprop((∃ X, owns (c : Thread nD τ) (Memref.whole cc1_scratch0) fullShare X) ∗ rest1 c) := by
  unfold rest1
  rw [scopedRest1_eq]
  simp only [owns_whole]
  iintro ⟨R0, R1, R2, R3, R4, R5, R6, R7, R8, R9, R10, R11, R12, H0⟩
  isplitl [H0]; · iexact H0
  iintro H
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact H

/-- What is held between points: before the first the whole scratch space at anything, afterwards the kept gates in the
    scratch buffer and the rest. -/
def PhiS1 (c : Dev nD) : ℕ → sProp 𝕄
  | 0 => Pipeline.scopedRest spec1 c
  | _ + 1 => iprop(owns (c : Thread nD τ) (Memref.whole cc1_scratch0) fullShare (keepC1 V c) ∗ rest1 c)

theorem PhiS1_pos (c : Dev nD) (n : ℕ) (hz : n ≠ 0) :
    PhiS1 V c n = iprop(owns (c : Thread nD τ) (Memref.whole cc1_scratch0) fullShare (keepC1 V c) ∗ rest1 c) := by
  cases n with
  | zero => exact absurd rfl hz
  | succ n => rfl

/-- The proof data of the second kernel: the arrays as it finds them, what each buffer holds after each point. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => acc1 V c t.val
  Φ t := PhiS1 V c t.val
  q _ := fullShare
  owed _ := 0

theorem Phi1_castSucc (c : Dev nD) (t : Fin cfg1.N) : (dat1 V c).Φ t.castSucc = PhiS1 V c t.val := rfl

theorem Phi1_succ (c : Dev nD) (t : Fin cfg1.N) :
    (dat1 V c).Φ t.succ = iprop(owns (c : Thread nD τ) (Memref.whole cc1_scratch0) fullShare (keepC1 V c) ∗ rest1 c) := rfl

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = blk1 V c 8 t := by dsimp only [dat1]
theorem after1_9 (c : Dev nD) (t : Fin cfg1.N) : (dat1 V c).after 9 t = blk1 V c 9 t := by dsimp only [dat1]
theorem after1_10 (c : Dev nD) (t : Fin cfg1.N) : (dat1 V c).after 10 t = acc1 V c t.val := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rfl) t d).trans
    (by unfold Dat.fetched Dat.blockOf blk1; rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rfl) t d).trans
    (by unfold Dat.fetched Dat.blockOf blk1; rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rfl) t d).trans
    (by unfold Dat.fetched Dat.blockOf blk1; rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rfl) t d).trans
    (by unfold Dat.fetched Dat.blockOf blk1; rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rfl) t d).trans
    (by unfold Dat.fetched Dat.blockOf blk1; rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rfl) t d).trans
    (by unfold Dat.fetched Dat.blockOf blk1; rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rfl) t d).trans
    (by unfold Dat.fetched Dat.blockOf blk1; rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rfl) t d).trans
    (by unfold Dat.fetched Dat.blockOf blk1; rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [after1_8]; unfold Dat.blockOf blk1; rfl) t d).trans
    (by unfold Dat.fetched Dat.blockOf blk1; rfl)
theorem before1_9 (c : Dev nD) (t : Fin cfg1.N) (d) : (dat1 V c).before 9 t d = blk1 V c 9 t :=
  ((dat1 V c).before_in_eq_fetched 9 rfl (fun _ => rfl) (fun _ _ _ => rfl)
    (fun t => by rw [after1_9]; unfold Dat.blockOf blk1; rfl) t d).trans
    (by unfold Dat.fetched Dat.blockOf blk1; rfl)

/-! The conditions of the body, and which windows it leaves idle, from the point's number. -/

theorem cond1_1 : ∀ t : Fin cfg1.N, (Scalar.cmpi .ne (Scalar.extui (Scalar.cmpi .eq (BitVec.ofNat 32 ((grid1.coords t) 0).val) 0#32)) 0#32) = 1#1 ↔ t.val = 0 :=
  (by decide +kernel : ∀ t : Fin grid1.N, (Scalar.cmpi .ne (Scalar.extui (Scalar.cmpi .eq (BitVec.ofNat 32 ((grid1.coords t) 0).val) 0#32)) 0#32) = 1#1 ↔ t.val = 0)
theorem cond1_2 : ∀ t : Fin cfg1.N, k1_cond2 (grid1.coords t) = 1#1 ↔ t.val = 0 :=
  (by decide +kernel : ∀ t : Fin grid1.N, k1_cond2 (grid1.coords t) = 1#1 ↔ t.val = 0)
theorem cond1_3 : ∀ t : Fin cfg1.N, k1_cond3 (grid1.coords t) = 1#1 ↔ ¬ t.val = 0 :=
  (by decide +kernel : ∀ t : Fin grid1.N, k1_cond3 (grid1.coords t) = 1#1 ↔ ¬ t.val = 0)
theorem cond1_4 : ∀ t : Fin cfg1.N, k1_cond4 (grid1.coords t) = 1#1 ↔ t.val = 3 :=
  (by decide +kernel : ∀ t : Fin grid1.N, k1_cond4 (grid1.coords t) = 1#1 ↔ t.val = 3)
theorem live1_10 : ∀ t : Fin cfg1.N, cfg1.idle 10 (grid1.coords t) = false := by decide +kernel

/-- Before which points an output's buffer holds nothing of the kernel's: the first only, up to the end. -/
def freshTab1 : ℕ → Bool
  | 0 => true
  | n + 1 => (0x8 : ℕ).testBit n

theorem fresh1_10 (t : Fin cfg1.N) (h : ¬ t.val = 0) : cfg1.fresh 10 t.val = false := by
  rw [Pipeline.Cfg.fresh_tab cfg1 10 freshTab1 rfl (by decide +kernel) t.val (Nat.le_of_lt t.isLt)]
  revert t; decide +kernel
theorem carry1_10 (c : Dev nD) : ∀ (t : Fin cfg1.N) (_ : t.val ≠ 0), cfg1.idle 10 (cfg1.grid.coords t) = true →
    cfg1.fresh 10 t.val = false → (dat1 V c).after 10 t = (dat1 V c).after 10 ⟨t.val - 1, by omega⟩ := by
  intro t _ hi _
  rw [show cfg1.idle 10 (cfg1.grid.coords t) = false from live1_10 t] at hi
  exact absurd hi Bool.false_ne_true
/-- At a later point the output's buffer holds what the points before accumulated. -/
theorem before1_10 (c : Dev nD) (t : Fin cfg1.N) (h : ¬ t.val = 0) (d) :
    (dat1 V c).before 10 t d = sum1 V c (t.val - 1) := by
  rw [Dat.before_out_traj _ 10 rfl (fun _ _ => rfl) (carry1_10 V c) t.val t rfl d,
    if_neg (by rw [fresh1_10 t h]; exact Bool.false_ne_true)]
  have ht : t.val < 4 := lt_of_lt_of_eq t.isLt (show cfg1.N = 4 from N_1)
  dsimp only [dat1]
  exact dif_neg (by omega)

theorem sum1_pos (c : Dev nD) (t : Fin cfg1.N) (h : ¬ t.val = 0) :
    sum1 V c t.val = k1_pay2 (term1 V c t) (sum1 V c (t.val - 1)) := by
  obtain ⟨n, hn⟩ := t
  cases n with
  | zero => exact absurd rfl h
  | succ n => simp only [sum1, Nat.add_sub_cancel]; rw [dif_pos hn]

theorem acc1_first (c : Dev nD) : acc1 V c first1.val = k1_pay1 (term1 V c first1) (blk1 V c 0 first1) :=
  dif_neg (by decide)

theorem acc1_mid (c : Dev nD) (t : Fin cfg1.N) (h : ¬ t.val = 0) (h3 : ¬ t.val = 3) :
    acc1 V c t.val = k1_pay2 (term1 V c t) (sum1 V c (t.val - 1)) := by
  rw [← sum1_pos V c t h]; exact dif_neg h3

theorem acc1_last (c : Dev nD) (t : Fin cfg1.N) (h3 : t.val = 3) :
    acc1 V c t.val = k1_pay3 (k1_pay2 (term1 V c t) (sum1 V c (t.val - 1))) (blk1 V c 7 t) (blk1 V c 8 t) (keepC1 V c)
      (blk1 V c 9 t) := by
  rw [← sum1_pos V c t (by omega)]; exact dif_pos h3

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body returns at point `t`. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

theorem leaves1_0 (c : Dev nD) (t : Fin cfg1.N) :
    ((dat1 V c).leavesExact 0 t : sProp 𝕄) = owns (c : Thread nD τ) (st1_0 t) fullShare ((dat1 V c).after 0 t) := by
  unfold Dat.leavesExact; rw [(rfl : cfg1.idle 0 (grid1.coords t) = false)]
theorem leaves1_1 (c : Dev nD) (t : Fin cfg1.N) :
    ((dat1 V c).leavesExact 1 t : sProp 𝕄) = owns (c : Thread nD τ) (st1_1 t) fullShare ((dat1 V c).after 1 t) := by
  unfold Dat.leavesExact; rw [(rfl : cfg1.idle 1 (grid1.coords t) = false)]
theorem leaves1_2 (c : Dev nD) (t : Fin cfg1.N) :
    ((dat1 V c).leavesExact 2 t : sProp 𝕄) = owns (c : Thread nD τ) (st1_2 t) fullShare ((dat1 V c).after 2 t) := by
  unfold Dat.leavesExact; rw [(rfl : cfg1.idle 2 (grid1.coords t) = false)]
theorem leaves1_3 (c : Dev nD) (t : Fin cfg1.N) :
    ((dat1 V c).leavesExact 3 t : sProp 𝕄) = owns (c : Thread nD τ) (st1_3 t) fullShare ((dat1 V c).after 3 t) := by
  unfold Dat.leavesExact; rw [(rfl : cfg1.idle 3 (grid1.coords t) = false)]
theorem leaves1_4 (c : Dev nD) (t : Fin cfg1.N) :
    ((dat1 V c).leavesExact 4 t : sProp 𝕄) = owns (c : Thread nD τ) (st1_4 t) fullShare ((dat1 V c).after 4 t) := by
  unfold Dat.leavesExact; rw [(rfl : cfg1.idle 4 (grid1.coords t) = false)]
theorem leaves1_5 (c : Dev nD) (t : Fin cfg1.N) :
    ((dat1 V c).leavesExact 5 t : sProp 𝕄) = owns (c : Thread nD τ) (st1_5 t) fullShare ((dat1 V c).after 5 t) := by
  unfold Dat.leavesExact; rw [(rfl : cfg1.idle 5 (grid1.coords t) = false)]
theorem leaves1_6 (c : Dev nD) (t : Fin cfg1.N) :
    ((dat1 V c).leavesExact 6 t : sProp 𝕄) = owns (c : Thread nD τ) (st1_6 t) fullShare ((dat1 V c).after 6 t) := by
  unfold Dat.leavesExact; rw [(rfl : cfg1.idle 6 (grid1.coords t) = false)]
theorem leaves1_7 (c : Dev nD) (t : Fin cfg1.N) :
    ((dat1 V c).leavesExact 7 t : sProp 𝕄) = owns (c : Thread nD τ) (st1_7 t) fullShare ((dat1 V c).after 7 t) := by
  unfold Dat.leavesExact; rw [(rfl : cfg1.idle 7 (grid1.coords t) = false)]
theorem leaves1_8 (c : Dev nD) (t : Fin cfg1.N) :
    ((dat1 V c).leavesExact 8 t : sProp 𝕄) = owns (c : Thread nD τ) (st1_8 t) fullShare ((dat1 V c).after 8 t) := by
  unfold Dat.leavesExact; rw [(rfl : cfg1.idle 8 (grid1.coords t) = false)]
theorem leaves1_9 (c : Dev nD) (t : Fin cfg1.N) :
    ((dat1 V c).leavesExact 9 t : sProp 𝕄) = owns (c : Thread nD τ) (st1_9 t) fullShare ((dat1 V c).after 9 t) := by
  unfold Dat.leavesExact; rw [(rfl : cfg1.idle 9 (grid1.coords t) = false)]
theorem leaves1_10 (c : Dev nD) (t : Fin cfg1.N) :
    ((dat1 V c).leavesExact 10 t : sProp 𝕄) = owns (c : Thread nD τ) (st1_10 t) fullShare ((dat1 V c).after 10 t) := by
  unfold Dat.leavesExact; rw [live1_10 t]

set_option maxHeartbeats 4000000 in
/-- The body at the first point: it computes the gates and adds its term to what the first kernel left. -/
theorem sound1_first (c : Dev nD)  : pre1 V c first1 ⊢
    wp frame (wpE (defs₀ (F := F)) Variants.none c none) Set.univ (bodyAt1 first1) (fun _ => post1 V c first1) := by
  unfold pre1 post1 bodyAt1
  simp only [before1_0, before1_1, before1_2, before1_3, before1_4, before1_5, before1_6, before1_7, before1_8, before1_9, leaves1_0, leaves1_1, leaves1_2, leaves1_3, leaves1_4, leaves1_5, leaves1_6, leaves1_7, leaves1_8, leaves1_9, leaves1_10, after1_0, after1_1, after1_2, after1_3, after1_4, after1_5, after1_6, after1_7, after1_8, after1_9, after1_10, acc1_first V c]
  rw [show (dat1 V c).owesAt () first1.succ = (dat1 V c).owesAt () first1.castSucc from rfl, Phi1_succ, Phi1_castSucc]
  rw [show PhiS1 V c first1.val = Pipeline.scopedRest spec1 c from rfl]
  refine triple_frame (R := iprop(rest1 c ∗ (dat1 V c).owesAt () first1.castSucc ∗ owns (c : Thread nD τ) (st1_7 first1) fullShare (blk1 V c 7 first1) ∗ owns (c : Thread nD τ) (st1_8 first1) fullShare (blk1 V c 8 first1) ∗ owns (c : Thread nD τ) (st1_9 first1) fullShare (blk1 V c 9 first1))) (body1_first c (grid1.coords first1) (win1_0.stage (cfg1.slots first1 0)) (hstage1_0 ((cfg1.slots first1 0).cast nbuf1_0)) (win1_1.stage (cfg1.slots first1 1)) (hstage1_1 ((cfg1.slots first1 1).cast nbuf1_1)) (win1_2.stage (cfg1.slots first1 2)) (hstage1_2 ((cfg1.slots first1 2).cast nbuf1_2)) (win1_3.stage (cfg1.slots first1 3)) (hstage1_3 ((cfg1.slots first1 3).cast nbuf1_3)) (win1_4.stage (cfg1.slots first1 4)) (hstage1_4 ((cfg1.slots first1 4).cast nbuf1_4)) (win1_5.stage (cfg1.slots first1 5)) (hstage1_5 ((cfg1.slots first1 5).cast nbuf1_5)) (win1_6.stage (cfg1.slots first1 6)) (hstage1_6 ((cfg1.slots first1 6).cast nbuf1_6)) (win1_7.stage (cfg1.slots first1 7)) (hstage1_7 ((cfg1.slots first1 7).cast nbuf1_7)) (win1_8.stage (cfg1.slots first1 8)) (hstage1_8 ((cfg1.slots first1 8).cast nbuf1_8)) (win1_9.stage (cfg1.slots first1 9)) (hstage1_9 ((cfg1.slots first1 9).cast nbuf1_9)) (win1_10.stage (cfg1.slots first1 10)) (hstage1_10 ((cfg1.slots first1 10).cast nbuf1_10)) (Memref.whole cc1_scratch0) (Memref.isWhole_whole _)
    ((cond1_1 first1).mpr rfl) ((cond1_2 first1).mpr rfl) (fun hc => (cond1_3 first1).mp hc rfl) (fun hc => absurd ((cond1_4 first1).mp hc) (by decide))
    (blk1 V c 0 first1) (blk1 V c 1 first1) (blk1 V c 2 first1) (blk1 V c 3 first1) (blk1 V c 4 first1) (blk1 V c 5 first1) (blk1 V c 6 first1) Set.univ) ?_ ?_
  · iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HS' := (scoped1_split (F := F) c) $$ HS
    icases HS' with ⟨HX, HR⟩
    isplitl [H0 H1 H2 H3 H4 H5 H6 H10 HX]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H10]; · iexists _; iexact H10
      iexact HX
    isplitl [HR]; · iexact HR
    isplitl [Ho]; · iexact Ho
    isplitl [H7]; · iexact H7
    isplitl [H8]; · iexact H8
    iexact H9
  · intro _
    iintro ⟨⟨H0, H1, H2, H3, H4, H5, H6, H10, HX⟩, HR, Ho, H7, H8, H9⟩
    isplitl [HX HR]
    · isplitl [HX]; · iexact HX
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 4000000 in
/-- The body at a point between the first and the last: it adds its term. -/
theorem sound1_mid (c : Dev nD) (t : Fin cfg1.N) (h : ¬ t.val = 0) (h3 : ¬ t.val = 3) : pre1 V c t ⊢
    wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9, leaves1_0, leaves1_1, leaves1_2, leaves1_3, leaves1_4, leaves1_5, leaves1_6, leaves1_7, leaves1_8, leaves1_9, leaves1_10, after1_0, after1_1, after1_2, after1_3, after1_4, after1_5, after1_6, after1_7, after1_8, after1_9, after1_10, before1_10 V c t h, acc1_mid V c t h h3]
  rw [show (dat1 V c).owesAt () t.succ = (dat1 V c).owesAt () t.castSucc from rfl, Phi1_succ, Phi1_castSucc, PhiS1_pos V c _ h]
  refine triple_frame (R := iprop(rest1 c ∗ (dat1 V c).owesAt () t.castSucc ∗ owns (c : Thread nD τ) (st1_0 t) fullShare (blk1 V c 0 t) ∗ owns (c : Thread nD τ) (st1_2 t) fullShare (blk1 V c 2 t) ∗ owns (c : Thread nD τ) (st1_3 t) fullShare (blk1 V c 3 t) ∗ owns (c : Thread nD τ) (st1_7 t) fullShare (blk1 V c 7 t) ∗ owns (c : Thread nD τ) (st1_8 t) fullShare (blk1 V c 8 t) ∗ owns (c : Thread nD τ) (st1_9 t) fullShare (blk1 V c 9 t))) (body1_mid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _)
    (fun hc => h ((cond1_1 t).mp hc)) (fun hc => h ((cond1_2 t).mp hc)) ((cond1_3 t).mpr h) (fun hc => h3 ((cond1_4 t).mp hc))
    (blk1 V c 1 t) (blk1 V c 4 t) (blk1 V c 5 t) (blk1 V c 6 t) (sum1 V c (t.val - 1)) (keepC1 V c) Set.univ) ?_ ?_
  · iintro ⟨⟨HX, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [H1 H4 H5 H6 H10 HX]
    · isplitl [H1]; · iexact H1
      isplitl [H4]; · iexact H4
      isplitl [H5]; · iexact H5
      isplitl [H6]; · iexact H6
      isplitl [H10]; · iexact H10
      iexact HX
    isplitl [HR]; · iexact HR
    isplitl [Ho]; · iexact Ho
    isplitl [H0]; · iexact H0
    isplitl [H2]; · iexact H2
    isplitl [H3]; · iexact H3
    isplitl [H7]; · iexact H7
    isplitl [H8]; · iexact H8
    iexact H9
  · intro _
    iintro ⟨⟨H1, H4, H5, H6, H10, HX⟩, HR, Ho, H0, H2, H3, H7, H8, H9⟩
    isplitl [HX HR]
    · isplitl [HX]; · iexact HX
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 4000000 in
/-- The body at the last point: it adds its term and the gated biases. -/
theorem sound1_last (c : Dev nD) (t : Fin cfg1.N) (h : ¬ t.val = 0) (h3 : t.val = 3) : pre1 V c t ⊢
    wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9, leaves1_0, leaves1_1, leaves1_2, leaves1_3, leaves1_4, leaves1_5, leaves1_6, leaves1_7, leaves1_8, leaves1_9, leaves1_10, after1_0, after1_1, after1_2, after1_3, after1_4, after1_5, after1_6, after1_7, after1_8, after1_9, after1_10, before1_10 V c t h, acc1_last V c t h3]
  rw [show (dat1 V c).owesAt () t.succ = (dat1 V c).owesAt () t.castSucc from rfl, Phi1_succ, Phi1_castSucc, PhiS1_pos V c _ h]
  refine triple_frame (R := iprop(rest1 c ∗ (dat1 V c).owesAt () t.castSucc ∗ owns (c : Thread nD τ) (st1_0 t) fullShare (blk1 V c 0 t) ∗ owns (c : Thread nD τ) (st1_2 t) fullShare (blk1 V c 2 t) ∗ owns (c : Thread nD τ) (st1_3 t) fullShare (blk1 V c 3 t))) (body1_last c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _)
    (fun hc => h ((cond1_1 t).mp hc)) (fun hc => h ((cond1_2 t).mp hc)) ((cond1_3 t).mpr h) ((cond1_4 t).mpr h3)
    (blk1 V c 1 t) (blk1 V c 4 t) (blk1 V c 5 t) (blk1 V c 6 t) (blk1 V c 7 t) (blk1 V c 8 t) (blk1 V c 9 t) (sum1 V c (t.val - 1)) (keepC1 V c) Set.univ) ?_ ?_
  · iintro ⟨⟨HX, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [H1 H4 H5 H6 H7 H8 H9 H10 HX]
    · isplitl [H1]; · iexact H1
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HX
    isplitl [HR]; · iexact HR
    isplitl [Ho]; · iexact Ho
    isplitl [H0]; · iexact H0
    isplitl [H2]; · iexact H2
    iexact H3
  · intro _
    iintro ⟨⟨H1, H4, H5, H6, H7, H8, H9, H10, HX⟩, HR, Ho, H0, H2, H3⟩
    isplitl [HX HR]
    · isplitl [HX]; · iexact HX
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body at any point. -/
theorem sound1 (c : Dev nD) (t : Fin cfg1.N) : pre1 V c t ⊢
    wp frame (wpE (defs₀ (F := F)) Variants.none c none) Set.univ (bodyAt1 t) (fun _ => post1 V c t) := by
  by_cases h : t.val = 0
  · obtain rfl : t = first1 := Fin.ext h
    exact sound1_first V c
  · by_cases h3 : t.val = 3
    · exact sound1_last V c t h h3
    · exact sound1_mid V c t h h3

/-- The kernel's row of the definitions, at the point's buffers. -/
theorem row1 (t : Fin cfg1.N) : (defs₀ (F := F)) .tc cfg1.body (cfg1.bodyArgs t (cfg1.slots t)) = bodyAt1 t := by
  unfold defs₀; rw [Defs.onTc_tc]

/-- The body obligation of the second kernel. -/
theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Gen

end
-- ==== Proof.KernelIdeal.Segs.lean ====
module

public import proofs.«01_k».proof.Proof.Gen.KernelIdeal.Regions
public import proofs.«01_k».proof.Proof.KernelIdeal.Data1
public import Idealize.ShloMosaic.Lib.Pipeline.RegionArrays
public import Idealize.ShloMosaic.Lib.Pipeline.ValueKit
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers between the items -/

/-- A core's buffers after the first kernel: the accumulated output, the gates and the loss are the only new contents. -/
def W2 (c : Dev nD) : Valuation τ sig (Elt F) :=
  Function.update (Function.update (Function.update (V1 m c) main_call0_v2_0 (acc0 (V1 m) c 31))
    main_call0_v2_1 (gatesC0 (V1 m) c)) main_call0_v2_2 (auxC0 (V1 m) c)

/-- And when the second kernel is entered. -/
def W3 (c : Dev nD) : Valuation τ sig (Elt F) := StableHlo.after hostOps1 (W2 m c)

/-- And after the second kernel: only its output has changed. -/
def W4 (c : Dev nD) : Valuation τ sig (Elt F) :=
  Function.update (W3 m c) main_v0_0 (acc1 (W3 m) c 3)

/-- And at the end. -/
def W5 (c : Dev nD) : Valuation τ sig (Elt F) := StableHlo.after hostOps2 (W4 m c)

/-- What the two kernels leave in the buffers they write. -/
def outs : Outs (F := F) := fun J r c => match J with
  | 2 => W2 m c r
  | _ => W4 m c r

theorem W2_gates (c : Dev nD) : W2 m c main_call0_v2_1 = gatesC0 (V1 m) c := by
  unfold W2
  rw [Function.update_of_ne (StableHlo.devRef_ne_of_ne (by decide)), Function.update_self]
theorem W2_out (c : Dev nD) : W2 m c main_call0_v2_0 = acc0 (V1 m) c 31 := by
  unfold W2
  rw [Function.update_of_ne (StableHlo.devRef_ne_of_ne (by decide)), Function.update_of_ne (StableHlo.devRef_ne_of_ne (by decide)),
    Function.update_self]
theorem W2_aux (c : Dev nD) : W2 m c main_call0_v2_2 = auxC0 (V1 m) c := by
  unfold W2; rw [Function.update_self]
theorem W4_out (c : Dev nD) : W4 m c main_v0_0 = acc1 (W3 m) c 3 := by
  unfold W4; rw [Function.update_self]

theorem V2_eq (c : Dev nD) : V2 m (outs m) c = W2 m c := by
  show Function.update (Function.update (Function.update (V1 m c) main_call0_v2_0 (W2 m c main_call0_v2_0))
    main_call0_v2_1 (W2 m c main_call0_v2_1)) main_call0_v2_2 (W2 m c main_call0_v2_2) = _
  rw [W2_gates, W2_out, W2_aux]; rfl
theorem V3_eq (c : Dev nD) : V3 m (outs m) c = W3 m c := by
  show StableHlo.after hostOps1 (V2 m (outs m) c) = _
  rw [V2_eq]; rfl
theorem V4_eq (c : Dev nD) : V4 m (outs m) c = W4 m c := by
  show Function.update (V3 m (outs m) c) main_v0_0 (W4 m c main_v0_0) = _
  rw [V3_eq, W4_out]; rfl
theorem V5_eq (c : Dev nD) : V5 m (outs m) c = W5 m c := by
  show StableHlo.after hostOps2 (V4 m (outs m) c) = _
  rw [V4_eq]; rfl

theorem W2_of (c : Dev nD) (r : Ref sig .tc) (h : r ∉ ([main_call0_v2_0, main_call0_v2_1, main_call0_v2_2] : List (Ref sig .tc))) :
    W2 m c r = V1 m c r := by rw [← V2_eq]; exact V2_of m (outs m) c r h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v0_0] : List (Ref sig .tc))) : W4 m c r = W3 m c r := by
  rw [← V4_eq, ← V3_eq]; exact V4_of m (outs m) c r h
theorem W5_of (c : Dev nD) (r : Ref sig .tc) (h : r ∉ hostOps2_W) : W5 m c r = W4 m c r :=
  StableHlo.after_of_writes_sub hostOps2 _ hostOps2_writes h

/-! ## The arrays after each kernel -/

/-- The last grid point of each kernel. -/
abbrev last0 : Fin cfg0.N := ⟨31, by rw [show cfg0.N = 32 from N_0]; decide⟩
abbrev last1 : Fin cfg1.N := ⟨3, by rw [show cfg1.N = 4 from N_1]; decide⟩

theorem arr0_6 (V : Dev nD → Valuation τ sig (Elt F)) (c : Dev nD) :
    (dat0 V c).arrAt 6 cfg0.N = acc0 V c 31 :=
  (dat0 V c).arrAt_eq_of_after_last 6 last0 (by decide +kernel) _ fun j => by
    rw [after0_6]; exact congrArg (acc0 V c 31) (funext fun a => Fin.ext rfl)
theorem arr0_7 (V : Dev nD → Valuation τ sig (Elt F)) (c : Dev nD) :
    (dat0 V c).arrAt 7 cfg0.N = gatesC0 V c :=
  (dat0 V c).arrAt_eq_of_after_last 7 last0 (by decide +kernel) _ fun j => by
    rw [after0_7]; exact congrArg (gatesC0 V c) (funext fun a => Fin.ext rfl)
theorem arr0_8 (V : Dev nD → Valuation τ sig (Elt F)) (c : Dev nD) :
    (dat0 V c).arrAt 8 cfg0.N = auxC0 V c :=
  (dat0 V c).arrAt_eq_of_after_last 8 last0 (by decide +kernel) _ fun j => by
    rw [after0_8]; exact congrArg (auxC0 V c) (funext fun a => Fin.ext rfl)
theorem arr1_10 (V : Dev nD → Valuation τ sig (Elt F)) (c : Dev nD) :
    (dat1 V c).arrAt 10 cfg1.N = acc1 V c 3 :=
  (dat1 V c).arrAt_eq_of_after_last 10 last1 (by decide +kernel) _ fun j => by
    rw [after1_10]; exact congrArg (acc1 V c 3) (funext fun a => Fin.ext rfl)

/-- Every array of the first kernel's windows, after it, is what the buffers then hold. -/
theorem exit0 (c : Dev nD) : ∀ w : Fin cfg0.W,
    (dat0 (V1 m) c).arrAt w cfg0.N = W2 m c (Proc.devRef .tc (Pipeline.arrRef spec0 w))
  | ⟨0, _⟩ => ((dat0 (V1 m) c).arrAt_in 0 rfl cfg0.N).trans (W2_of m c (Pipeline.arrRef spec0 0) (by decide)).symm
  | ⟨1, _⟩ => ((dat0 (V1 m) c).arrAt_in 1 rfl cfg0.N).trans (W2_of m c (Pipeline.arrRef spec0 1) (by decide)).symm
  | ⟨2, _⟩ => ((dat0 (V1 m) c).arrAt_in 2 rfl cfg0.N).trans (W2_of m c (Pipeline.arrRef spec0 2) (by decide)).symm
  | ⟨3, _⟩ => ((dat0 (V1 m) c).arrAt_in 3 rfl cfg0.N).trans (W2_of m c (Pipeline.arrRef spec0 3) (by decide)).symm
  | ⟨4, _⟩ => ((dat0 (V1 m) c).arrAt_in 4 rfl cfg0.N).trans (W2_of m c (Pipeline.arrRef spec0 4) (by decide)).symm
  | ⟨5, _⟩ => ((dat0 (V1 m) c).arrAt_in 5 rfl cfg0.N).trans (W2_of m c (Pipeline.arrRef spec0 5) (by decide)).symm
  | ⟨6, _⟩ => (arr0_6 _ c).trans (W2_out m c).symm
  | ⟨7, _⟩ => (arr0_7 _ c).trans (W2_gates m c).symm
  | ⟨8, _⟩ => (arr0_8 _ c).trans (W2_aux m c).symm

/-- Every array of the second kernel's windows, after it, is what the buffers then hold. -/
theorem exit1 (c : Dev nD) : ∀ w : Fin cfg1.W,
    (dat1 (W3 m) c).arrAt w cfg1.N = W4 m c (Proc.devRef .tc (Pipeline.arrRef spec1 w))
  | ⟨0, _⟩ => ((dat1 (W3 m) c).arrAt_in 0 rfl cfg1.N).trans (W4_of m c (Pipeline.arrRef spec1 0) (by decide)).symm
  | ⟨1, _⟩ => ((dat1 (W3 m) c).arrAt_in 1 rfl cfg1.N).trans (W4_of m c (Pipeline.arrRef spec1 1) (by decide)).symm
  | ⟨2, _⟩ => ((dat1 (W3 m) c).arrAt_in 2 rfl cfg1.N).trans (W4_of m c (Pipeline.arrRef spec1 2) (by decide)).symm
  | ⟨3, _⟩ => ((dat1 (W3 m) c).arrAt_in 3 rfl cfg1.N).trans (W4_of m c (Pipeline.arrRef spec1 3) (by decide)).symm
  | ⟨4, _⟩ => ((dat1 (W3 m) c).arrAt_in 4 rfl cfg1.N).trans (W4_of m c (Pipeline.arrRef spec1 4) (by decide)).symm
  | ⟨5, _⟩ => ((dat1 (W3 m) c).arrAt_in 5 rfl cfg1.N).trans (W4_of m c (Pipeline.arrRef spec1 5) (by decide)).symm
  | ⟨6, _⟩ => ((dat1 (W3 m) c).arrAt_in 6 rfl cfg1.N).trans (W4_of m c (Pipeline.arrRef spec1 6) (by decide)).symm
  | ⟨7, _⟩ => ((dat1 (W3 m) c).arrAt_in 7 rfl cfg1.N).trans (W4_of m c (Pipeline.arrRef spec1 7) (by decide)).symm
  | ⟨8, _⟩ => ((dat1 (W3 m) c).arrAt_in 8 rfl cfg1.N).trans (W4_of m c (Pipeline.arrRef spec1 8) (by decide)).symm
  | ⟨9, _⟩ => ((dat1 (W3 m) c).arrAt_in 9 rfl cfg1.N).trans (W4_of m c (Pipeline.arrRef spec1 9) (by decide)).symm
  | ⟨10, _⟩ => (arr1_10 _ c).trans (W4_out m c).symm

/-! ## The two kernels as segments of the run -/

/-- The proof data of the two kernels. -/
def pdats : (p : Fin 2) → (c : Dev nD) → Dat τ (Elt F) Unit ℕ (UR sig nD τ) ℕ (cfgs p) c
  | 0 => fun c => dat0 (V1 m) c
  | 1 => fun c => dat1 (W3 m) c

/-- Every cell of a TensorCore carries the one credit index. -/
def lvls : GSem nD τ sig → Finset Unit := fun g => if g.1.2 = .tc then {()} else ∅

theorem lvls_other (g : GSem nD τ sig) (h : g.1.2 ≠ .tc) : lvls g = ∅ := if_neg h

/-- Nothing is owed, so the levels never bind. -/
theorem cut (p : Fin 2) : Pipeline.LevelCut (Val := Elt F) (pcfgs (F := F)) adm () lvls (fun _ _ => (0 : ℕ)) p
    (fun _ => (0 : CellTallies nD τ sig Unit)) (fun _ => 0) where
  hι c w s := by unfold lvls; rw [if_pos rfl]; exact Finset.mem_singleton_self _
  hιb c w s := le_refl _
  hD c g i h := absurd h (lt_irrefl _)

/-- Kernel 0 as a segment: entered with its windows' arrays as it finds them and every other buffer set aside, left with
    the arrays as it leaves them. -/
def kseg0 : Pipeline.RegionSeg (pcfgs (F := F)) adm (pdats m) () (defs₀ (F := F)) Variants.none lvls (fun _ _ => (0 : ℕ)) 0 :=
  Pipeline.RegionSeg.ofHeld (pcfgs (F := F)) adm (pdats m) () (defs₀ (F := F)) Variants.none lvls (fun _ _ => (0 : ℕ)) 0
    (fun _ => 0) (fun _ => iprop(emp)) (fun _ => iprop(emp)) launch0.toP rfl (fun c => (obligation0 (V1 m) c).loose)
    (fun _ _ => rfl) (fun _ => rfl) (fun c => (dat0 (V1 m) c).share_full fun _ => rfl)
    (fun c => (show iprop(Pipeline.scopedRest spec0 c ∗ emp) ⊢ (Pipeline.scopedRest spec0 c : sProp 𝕄) from by
      iintro ⟨H, -⟩; iexact H))
    (fun c => (show iprop(owns (c : Thread nD τ) (Memref.whole cc0_scratch0) fullShare (keepC0 (V1 m) c) ∗ rest0 c)
        ⊢ (iprop(Pipeline.scopedRest spec0 c ∗ emp) : sProp 𝕄) from by
      unfold rest0
      iintro ⟨HX, HR⟩
      isplitl [HX HR]
      · iapply HR; iexists _; iexact HX
      iempintro))
    (fun _ => 0) (cut 0)
    (fun c => StableHlo.held (c : Thread nD τ) (Pipeline.ucRefs τ sig \ Pipeline.arrRefs spec0) (V1 m c))
    (fun c => V1 m c) (fun c => W2 m c) (fun c w => rfl) (fun c w => exit0 m c w)

/-- Kernel 1 as a segment: entered with its windows' arrays as it finds them and every other buffer set aside, left with
    the arrays as it leaves them. -/
def kseg1 : Pipeline.RegionSeg (pcfgs (F := F)) adm (pdats m) () (defs₀ (F := F)) Variants.none lvls (fun _ _ => (0 : ℕ)) 1 :=
  Pipeline.RegionSeg.ofHeld (pcfgs (F := F)) adm (pdats m) () (defs₀ (F := F)) Variants.none lvls (fun _ _ => (0 : ℕ)) 1
    (fun _ => 0) (fun _ => iprop(emp)) (fun _ => iprop(emp)) launch1.toP rfl (fun c => (obligation1 (W3 m) c).loose)
    (fun _ _ => rfl) (fun _ => rfl) (fun c => (dat1 (W3 m) c).share_full fun _ => rfl)
    (fun c => (show iprop(Pipeline.scopedRest spec1 c ∗ emp) ⊢ (Pipeline.scopedRest spec1 c : sProp 𝕄) from by
      iintro ⟨H, -⟩; iexact H))
    (fun c => (show iprop(owns (c : Thread nD τ) (Memref.whole cc1_scratch0) fullShare (keepC1 (W3 m) c) ∗ rest1 c)
        ⊢ (iprop(Pipeline.scopedRest spec1 c ∗ emp) : sProp 𝕄) from by
      unfold rest1
      iintro ⟨HX, HR⟩
      isplitl [HX HR]
      · iapply HR; iexists _; iexact HX
      iempintro))
    (fun _ => 0) (cut 1)
    (fun c => StableHlo.held (c : Thread nD τ) (Pipeline.ucRefs τ sig \ Pipeline.arrRefs spec1) (W3 m c))
    (fun c => W3 m c) (fun c => W4 m c) (fun c w => rfl) (fun c w => exit1 m c w)

end Cert.KernelIdeal.Gen

end
-- ==== Proof.KernelIdeal.Run.lean ====
module

public import proofs.«01_k».proof.Proof.KernelIdeal.Segs
public import Idealize.ShloMosaic.Lib.Pipeline.RegionArrays
public import Idealize.ShloMosaic.Lib.Pipeline.ValueKit
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a core holds between the items besides its buffers: it owes nothing. -/
def idleState (c : Dev nD) : sProp 𝕄 := iprop(∃ W, owes (c : Thread nD τ) (0 : CellTallies nD τ sig Unit) W)

/-- A kernel's segment, entered from all the buffers. -/
theorem enter0 (c : Dev nD) : iprop(StableHlo.held (c : Thread nD τ) (Pipeline.ucRefs τ sig) (V1 m c) ∗ idleState c) ⊢ (kseg0 m).pre c := by
  refine (show _ ⊢ iprop(StableHlo.held (c : Thread nD τ) (Pipeline.arrRefs spec0) (V1 m c) ∗ emp
    ∗ StableHlo.held (c : Thread nD τ) (Pipeline.ucRefs τ sig \ Pipeline.arrRefs spec0) (V1 m c) ∗ idleState c) from ?_)
  rw [StableHlo.held_sub_split (c : Thread nD τ) (Pipeline.arrRefs_sub_ucRefs spec0 (by decide)) (V1 m c)]
  iintro ⟨⟨H1, H2⟩, H3⟩
  isplitl [H1]; · iexact H1
  isplitr; · iempintro
  isplitl [H2]; · iexact H2
  iexact H3

theorem enter1 (c : Dev nD) : iprop(StableHlo.held (c : Thread nD τ) (Pipeline.ucRefs τ sig) (W3 m c) ∗ idleState c) ⊢ (kseg1 m).pre c := by
  refine (show _ ⊢ iprop(StableHlo.held (c : Thread nD τ) (Pipeline.arrRefs spec1) (W3 m c) ∗ emp
    ∗ StableHlo.held (c : Thread nD τ) (Pipeline.ucRefs τ sig \ Pipeline.arrRefs spec1) (W3 m c) ∗ idleState c) from ?_)
  rw [StableHlo.held_sub_split (c : Thread nD τ) (Pipeline.arrRefs_sub_ucRefs spec1 (by decide)) (W3 m c)]
  iintro ⟨⟨H1, H2⟩, H3⟩
  isplitl [H1]; · iexact H1
  isplitr; · iempintro
  isplitl [H2]; · iexact H2
  iexact H3

/-- A buffer that is no array of the first kernel's windows is not one of its results. -/
theorem other0 (c : Dev nD) (b : DevRef τ sig) (hb : b ∈ Pipeline.ucRefs τ sig \ Pipeline.arrRefs spec0) : W2 m c b = V1 m c b := by
  obtain ⟨-, hb⟩ := Finset.mem_sdiff.mp hb
  unfold W2
  rw [Function.update_of_ne (by rintro rfl; exact hb (by decide)), Function.update_of_ne (by rintro rfl; exact hb (by decide)),
    Function.update_of_ne (by rintro rfl; exact hb (by decide))]

theorem other1 (c : Dev nD) (b : DevRef τ sig) (hb : b ∈ Pipeline.ucRefs τ sig \ Pipeline.arrRefs spec1) : W4 m c b = W3 m c b := by
  obtain ⟨-, hb⟩ := Finset.mem_sdiff.mp hb
  unfold W4
  rw [Function.update_of_ne (by rintro rfl; exact hb (by decide))]

/-- A kernel's segment, left to all the buffers. -/
theorem leave0 (c : Dev nD) : (kseg0 m).post c ⊢ iprop(StableHlo.held (c : Thread nD τ) (Pipeline.ucRefs τ sig) (W2 m c) ∗ idleState c) := by
  refine (show iprop(StableHlo.held (c : Thread nD τ) (Pipeline.arrRefs spec0) (W2 m c) ∗ emp
    ∗ StableHlo.held (c : Thread nD τ) (Pipeline.ucRefs τ sig \ Pipeline.arrRefs spec0) (V1 m c) ∗ idleState c) ⊢ _ from ?_)
  rw [StableHlo.held_sub_split (c : Thread nD τ) (Pipeline.arrRefs_sub_ucRefs spec0 (by decide)) (W2 m c),
    StableHlo.held_congr (c : Thread nD τ) (other0 m c)]
  iintro ⟨H1, -, H2, H3⟩
  isplitl [H1 H2]
  · isplitl [H1]; · iexact H1
    iexact H2
  iexact H3

theorem leave1 (c : Dev nD) : (kseg1 m).post c ⊢ iprop(StableHlo.held (c : Thread nD τ) (Pipeline.ucRefs τ sig) (W4 m c) ∗ idleState c) := by
  refine (show iprop(StableHlo.held (c : Thread nD τ) (Pipeline.arrRefs spec1) (W4 m c) ∗ emp
    ∗ StableHlo.held (c : Thread nD τ) (Pipeline.ucRefs τ sig \ Pipeline.arrRefs spec1) (W3 m c) ∗ idleState c) ⊢ _ from ?_)
  rw [StableHlo.held_sub_split (c : Thread nD τ) (Pipeline.arrRefs_sub_ucRefs spec1 (by decide)) (W4 m c),
    StableHlo.held_congr (c : Thread nD τ) (other1 m c)]
  iintro ⟨H1, -, H2, H3⟩
  isplitl [H1 H2]
  · isplitl [H1]; · iexact H1
    iexact H2
  iexact H3

-- the run's implicit arguments are found by unifying its conclusion with this one, which takes unfolding plain definitions
-- in a metavariable's type
set_option backward.isDefEq.respectTransparency.types false in
/-- The run: it terminates with every counter at zero and every unscoped buffer at what the last item leaves in it. -/
theorem run_all : θ_run defs (onTc (τ := τ) (main (F := F))) ⟨m, fun _ => 0, ρ⟩
    (fun r => (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj
    (emb₁ : Emb (UR sig nD τ) 𝕄) (defs₀ (F := F)) Variants.none lvls (fun _ _ => (0 : ℕ)) m ρ main
    (segs m (outs m) Variants.none lvls (fun _ _ => (0 : ℕ)) (fun _ c => idleState c) () (pdats m) (kseg0 m) (kseg1 m))
    (fun c Q => ?_)
    (fun c => by simp only [segs, Seg.pipes_host, Seg.pipes_region, Seg.pipes_nil]; decide)
    (fun _ => 0) lvls_other (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ idleState c))
    (Tₙ := fun c => StableHlo.held (c : Thread nD τ) (Pipeline.ucRefs τ sig) (W5 m c))
    (hch := fun c => ⟨.rfl, enter0 m c, ?_, ?_, ?_, ?_⟩)
    (hinit := ?_) (QY := fun c s => ∀ b ∈ Pipeline.ucRefs τ sig, s.mem (c, b) = W5 m c b)
    (hfin := fun c s' => ?_) (hQ := fun _ h hz => ⟨h, funext fun g => hz g (.inr (regions_no_unscoped g.2))⟩)
  · rewrite [main_chain c, Seg.run_eq_chain,
      show (segs m (outs m) Variants.none lvls (fun _ _ => (0 : ℕ)) (fun _ c => idleState c) () (pdats m) (kseg0 m) (kseg1 m) c).map Seg.prog = [
        StableHlo.seq hostOps0,
        Prog.lift (.customCall (Pipeline.entry 0) ()),
        StableHlo.seq hostOps1,
        Prog.lift (.customCall (Pipeline.entry 1) ()),
        StableHlo.seq hostOps2 ] from rfl]
    dsimp (config := { failIfUnchanged := false }) only
    exact .rfl
  · iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · exact (leave0 m c).trans (by rw [← V2_eq]; exact .rfl)
  · exact Entails.trans (by rw [← V3_eq]; exact .rfl) (enter1 m c)
  · exact (leave1 m c).trans (by rw [← V4_eq]; exact .rfl)
  · exact sep_mono (Entails.of_eq (by rw [← V5_eq])) .rfl
  · refine Pipeline.initEach lvls (fun _ _ => (0 : ℕ)) fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold idleState
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    iexact HSI

end Cert.KernelIdeal.Gen

end
-- ==== Proof.KernelIdeal.Frame.lean ====
module

public import proofs.«01_k».proof.Proof.KernelIdeal.Run
public import Idealize.ShloMosaic.Lib.Pipeline.RegionArrays
public import Idealize.ShloMosaic.Lib.Pipeline.ValueKit
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A TensorCore reference outside the scoped space is one of the buffers the run speaks of. -/
theorem mem_ucRefs (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- A buffer no item writes ends as launched. -/
theorem W5_launch (c : Dev nD) (r : Ref sig .tc)
    (h : r ∉ hostOps0_W ∧ r ∉ ([main_call0_v2_0, main_call0_v2_1, main_call0_v2_2] : List (Ref sig .tc)) ∧ r ∉ hostOps1_W
      ∧ r ∉ ([main_v0_0] : List (Ref sig .tc)) ∧ r ∉ hostOps2_W) :
    W5 m c r = m ((c.tc : Thread nD τ).loc r) :=
  (W5_of m c r h.2.2.2.2).trans <| (W4_of m c r h.2.2.2.1).trans <| (W3_of m c r h.2.2.1).trans <|
    (W2_of m c r h.2.1).trans <| (V1_of m c r h.1).trans rfl

/-- The frame: every run terminates, each argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c =>
    have key (b : Ref sig .tc) (hb : b.isScoped = false) (hw) : r.2.mem ((c.tc : Thread nD τ).loc b) = m ((c.tc : Thread nD τ).loc b) :=
      (h.1 c _ (mem_ucRefs b hb)).trans (W5_launch m c b hw)
    ⟨key main_arg0 rfl (by decide),
      key main_arg1 rfl (by decide),
      key main_arg2 rfl (by decide),
      key main_arg3 rfl (by decide),
      key main_arg4 rfl (by decide),
      key main_arg5 rfl (by decide),
      key main_arg6 rfl (by decide),
      key main_arg7 rfl (by decide),
      key main_arg8 rfl (by decide),
      key main_arg9 rfl (by decide),
      key main_arg10 rfl (by decide),
      key main_arg11 rfl (by decide),
      key main_arg12 rfl (by decide)⟩, h.2⟩) (run_all m ρ)

end Cert.KernelIdeal.Gen

end
-- ==== Proof.Claims.Frames.lean ====
/- The frames of the three programs, and the number the named constant denotes. -/
module

public import proofs.«01_k».proof.Defs
public import proofs.«01_k».proof.Proof.Kernel.Frame
public import proofs.«01_k».proof.Proof.KernelIdeal.Frame
public import proofs.«01_k».proof.Proof.Gen.ReferenceIdeal.Run

set_option maxRecDepth 16384

@[expose] public section

namespace Cert.Proof

open Idealize.ShloMosaic Idealize.SL.Sem

/-- The printed kernel leaves its arguments alone and its counters at zero. -/
theorem frame_kernel : @Cert.quiescent_Kernel Cert.Kernel.Gen.facts :=
  fun m ρ _ => Cert.Kernel.Gen.frame m ρ

/-- So does its idealization. -/
theorem frame_ideal : @Cert.quiescent_KernelIdeal Cert.KernelIdeal.Gen.facts :=
  fun m ρ _ => Cert.KernelIdeal.Gen.frame m ρ

/-- The reference writes no argument, and declares no semaphore. -/
theorem frame_ref : @Cert.quiescent_ReferenceIdeal Cert.ReferenceIdeal.Gen.facts :=
  fun m ρ _ => (θ_run (Cert.ReferenceIdeal.defs (F := Ideal)) _ _).mono
    (fun r h => ⟨fun c => (h c).2.2, Idealize.ShloMosaic.sem_eq_zero_of_no_sems (by decide) r.2⟩)
    (Cert.ReferenceIdeal.Value.run m ρ)

/-- With the arguments finite as without. -/
theorem frame_ideal_finite [Cert.Pre_finite.Facts] : @Cert.quiescent_KernelIdeal_pre_finite Cert.KernelIdeal.Gen.facts _ :=
  fun m ρ _ => frame_ideal m ρ trivial

theorem frame_ref_finite [Cert.Pre_finite.Facts] : @Cert.quiescent_ReferenceIdeal_pre_finite Cert.ReferenceIdeal.Gen.facts _ :=
  fun m ρ _ => frame_ref m ρ trivial

/-- The named literal of the kernel is the number the table gives it. -/
theorem preserves : Cert.preserves_Kernel_KernelIdeal := IdealRules.named_const.statement _ _ .f32 _ _ rfl

end Cert.Proof

end
-- ==== Proof.Math.Rank.lean ====
/- The order in which a row's largest entries are taken: larger entries first, equal entries by position.
   `rank f i` counts the positions taken before `i`. A stable descending sort puts the position of rank `k` at
   place `k`, and taking the first largest remaining entry again and again takes the ranks 0, 1, 2, … -/
module

public import Mathlib.Data.EReal.Basic
public import Mathlib.Algebra.BigOperators.Fin
public import Mathlib.Order.WellFounded
public import Idealize.ShloMosaic.Lib.SortFacts

@[expose] public section

noncomputable section

namespace Cert.Math

open Idealize.ShloMosaic
open scoped Classical BigOperators

variable {n : ℕ}

/-- Position `j` is taken before position `i`. -/
def beats (f : Fin n → EReal) (j i : Fin n) : Prop := f i < f j ∨ (f j = f i ∧ j < i)

/-- How many positions are taken before `i`. -/
def rank (f : Fin n → EReal) (i : Fin n) : ℕ := (Finset.univ.filter fun j => beats f j i).card

theorem beats_irrefl (f : Fin n → EReal) (i : Fin n) : ¬ beats f i i := by
  rintro (h | h)
  · exact lt_irrefl _ h
  · exact lt_irrefl _ h.2

theorem beats_trans {f : Fin n → EReal} {i j k : Fin n} (h : beats f i j) (h' : beats f j k) : beats f i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem beats_total (f : Fin n → EReal) {i j : Fin n} (h : i ≠ j) : beats f i j ∨ beats f j i := by
  rcases lt_trichotomy (f i) (f j) with hf | hf | hf
  · exact .inr (.inl hf)
  · rcases lt_or_gt_of_ne h with hl | hl
    · exact .inl (.inr ⟨hf, hl⟩)
    · exact .inr (.inr ⟨hf.symm, hl⟩)
  · exact .inl (.inl hf)

theorem rank_lt_of_beats {f : Fin n → EReal} {i j : Fin n} (h : beats f j i) : rank f j < rank f i := by
  refine Finset.card_lt_card (Finset.ssubset_iff_of_subset ?_ |>.mpr ⟨j, ?_, ?_⟩)
  · intro k hk
    simp only [Finset.mem_filter, Finset.mem_univ, true_and] at hk ⊢
    exact beats_trans hk h
  · simpa using h
  · simpa using beats_irrefl f j

theorem beats_of_rank_lt {f : Fin n → EReal} {i j : Fin n} (h : rank f j < rank f i) : beats f j i := by
  have hne : j ≠ i := fun e => by rw [e] at h; exact lt_irrefl _ h
  rcases beats_total f hne with hb | hb
  · exact hb
  · exact absurd (rank_lt_of_beats hb) (by omega)

theorem rank_injective (f : Fin n → EReal) : Function.Injective (rank f) := by
  intro i j h
  by_contra hne
  rcases beats_total f hne with hb | hb <;> have := rank_lt_of_beats hb <;> omega

theorem rank_lt (f : Fin n → EReal) (i : Fin n) : rank f i < n := by
  have h : (Finset.univ.filter fun j => beats f j i).card < (Finset.univ : Finset (Fin n)).card :=
    Finset.card_lt_card (Finset.ssubset_iff_of_subset (Finset.filter_subset _ _) |>.mpr
      ⟨i, Finset.mem_univ i, by simpa using beats_irrefl f i⟩)
  simpa [rank] using h

/-- Every rank is some position's. -/
theorem exists_rank (f : Fin n → EReal) {m : ℕ} (hm : m < n) : ∃ w, rank f w = m := by
  have hi : Function.Injective fun i => (⟨rank f i, rank_lt f i⟩ : Fin n) :=
    fun i j h => rank_injective f (Fin.mk.inj h)
  obtain ⟨w, hw⟩ := (Finite.injective_iff_surjective.mp hi) ⟨m, hm⟩
  exact ⟨w, Fin.mk.inj hw⟩

/-- What is left of the row once the first `m` ranks are struck out. -/
def left (f : Fin n → EReal) (m : ℕ) (i : Fin n) : EReal := if rank f i < m then ⊥ else f i

/-- The first largest of what is left after `m` rounds is the position of rank `m`. -/
theorem left_max {f : Fin n → EReal} (hf : ∀ i, f i ≠ ⊥) {m : ℕ} {w : Fin n} (hw : rank f w = m) :
    left f m w = f w ∧ (∀ i, left f m i ≤ f w) ∧ ∀ i, left f m i = f w → w ≤ i := by
  have hrest : ∀ i, ¬ rank f i < m → i ≠ w → beats f w i := fun i hi hne =>
    (beats_total f hne).resolve_left fun hb => hi (hw ▸ rank_lt_of_beats hb)
  refine ⟨if_neg (by omega), fun i => ?_, fun i hi => ?_⟩
  · unfold left
    split
    · exact bot_le
    · rename_i h
      by_cases hne : i = w
      · rw [hne]
      · rcases hrest i h hne with hb | hb
        · exact hb.le
        · exact hb.1.symm.le
  · unfold left at hi
    split at hi
    · exact absurd hi.symm (hf w)
    · rename_i h
      by_cases hne : i = w
      · exact hne.symm.le
      · rcases hrest i h hne with hb | hb
        · exact absurd hi hb.ne
        · exact hb.2.le

theorem left_succ (f : Fin n → EReal) (m : ℕ) (i : Fin n) :
    left f (m + 1) i = if rank f i = m then ⊥ else left f m i := by
  unfold left
  by_cases h : rank f i = m
  · rw [if_pos (by omega), if_pos h]
  · rw [if_neg h]
    by_cases h' : rank f i < m
    · rw [if_pos (by omega), if_pos h']
    · rw [if_neg (by omega), if_neg h']

/-- A stable sort consults its comparison only on a later position against an earlier one. -/
theorem stableSort_congr_lt {ι : Type} [LinearOrder ι] (R R' : ι → ι → Bool) (h : ∀ a b, a < b → R b a = R' b a)
    (l : List ι) (hl : l.Pairwise (· < ·)) : stableSort R l = stableSort R' l := by
  induction l with
  | nil => rfl
  | cons a l ih =>
    unfold stableSort
    rw [← ih (List.pairwise_cons.mp hl).2]
    exact insertBefore_congr R R' a _ fun b hb =>
      h a b ((List.pairwise_cons.mp hl).1 b ((perm_stableSort R l).mem_iff.mp hb))

/-- The stable descending sort puts the position of rank `k` at place `k`. -/
theorem rank_sortedFrom (f : Fin n → EReal) (R : Fin n → Fin n → Bool) (hR : ∀ a b, R a b = true ↔ f b < f a)
    (k : Fin n) : rank f (sortedFrom R k) = k.val := by
  let B : Fin n → Fin n → Bool := fun a b => decide (beats f a b)
  have hB : ∀ a b, B a b = true ↔ beats f a b := fun a b => decide_eq_true_iff
  have hRB : sortPositions n R = sortPositions n B := by
    refine stableSort_congr_lt R B (fun a b hab => ?_) _ (List.pairwise_lt_finRange n)
    refine Bool.eq_iff_iff.mpr ((hR b a).trans (Iff.trans ?_ (hB b a).symm))
    exact ⟨.inl, fun hb => hb.resolve_right fun h => absurd h.2 hab.not_gt⟩
  have hS : sortedFrom R = sortedFrom B := by
    funext k
    unfold sortedFrom
    rw [List.get_of_eq hRB]
    rfl
  have hmono : StrictMono fun k => (⟨rank f (sortedFrom B k), rank_lt f _⟩ : Fin n) := by
    intro i j hij
    have hni : B (sortedFrom B j) (sortedFrom B i) = false := by
      refine sortedFrom_noInversion B B (fun a b hab => ?_) (fun _ _ h => h) (fun a b c hab hbc => ?_) i j hij
      · rw [Bool.eq_false_iff]
        intro hba
        exact beats_irrefl f a (beats_trans ((hB a b).mp hab) ((hB b a).mp hba))
      · rw [Bool.eq_false_iff] at hab hbc ⊢
        intro hac
        have hac := (hB a c).mp hac
        by_cases e : a = b
        · exact hbc ((hB b c).mpr (e ▸ hac))
        · exact hbc ((hB b c).mpr (beats_trans
            ((beats_total f e).resolve_left fun h => hab ((hB a b).mpr h)) hac))
    have hne : sortedFrom B i ≠ sortedFrom B j := fun e => hij.ne (sortedFrom_injective B e)
    exact rank_lt_of_beats ((beats_total f hne).resolve_right fun h =>
      absurd ((hB _ _).mpr h) (by rw [hni]; decide))
  have hid := (hmono.range_inj strictMono_id).mp (by
    rw [(Finite.injective_iff_surjective.mp hmono.injective).range_eq, Set.range_id])
  rw [hS]
  exact congrArg Fin.val (congrFun hid k)

/-- A sum over the places of the first `m` ranks is the sum over the positions of those ranks. -/
theorem sum_places {m : ℕ} (f : Fin n → EReal) (s : Fin m → Fin n) (hs : ∀ k, rank f (s k) = k.val) (hm : m ≤ n)
    {M : Type} [AddCommMonoid M] (g : Fin n → M) :
    ∑ k, g (s k) = ∑ i, if rank f i < m then g i else 0 := by
  rw [← Finset.sum_filter]
  refine Finset.sum_bij (fun k _ => s k) (fun k _ => ?_) (fun a _ b _ h => ?_) (fun i hi => ?_) (fun _ _ => rfl)
  · simp only [Finset.mem_filter, Finset.mem_univ, true_and]
    rw [hs]; exact k.isLt
  · exact Fin.ext (by rw [← hs a, ← hs b, h])
  · have hi : rank f i < m := by simpa using hi
    exact ⟨⟨rank f i, hi⟩, Finset.mem_univ _, rank_injective f (hs _)⟩

end Cert.Math

end
-- ==== Proof.Math.Fold.lean ====
/- Folds over all positions of a row, read as the greatest or the least value. -/
module

public import proofs.«01_k».proof.Proof.Math.Rank
public import Idealize.ShloMosaic.Lib.Pointwise

@[expose] public section

noncomputable section

namespace Cert.Math

open Idealize.ShloMosaic
open scoped Classical BigOperators

variable {n : ℕ}

/-- The greatest entry of a row, `⊥` for an empty one. -/
def top (l : Fin n → EReal) : EReal := Finset.univ.fold max ⊥ l

theorem le_top (l : Fin n → EReal) (i : Fin n) : l i ≤ top l :=
  (Finset.le_fold_max _).mpr (.inr ⟨i, Finset.mem_univ i, le_rfl⟩)

theorem top_eq {l : Fin n → EReal} {v : EReal} {w : Fin n} (hw : l w = v) (h : ∀ i, l i ≤ v) : top l = v :=
  le_antisymm ((Finset.fold_max_le _).mpr ⟨bot_le, fun i _ => h i⟩) (hw ▸ le_top l w)

/-- The greatest entry of a nonempty row is one of its entries. -/
theorem exists_top [NeZero n] (l : Fin n → EReal) : ∃ w, top l = l w := by
  obtain ⟨w, -, hw⟩ := Finset.exists_max_image (Finset.univ : Finset (Fin n)) l ⟨0, Finset.mem_univ 0⟩
  exact ⟨w, top_eq rfl fun i => hw i (Finset.mem_univ i)⟩

/-- A fold of the signed minimum of words, read as integers. -/
theorem toInt_fold_minsi (b : BitVec 32) (f : Fin n → BitVec 32) :
    (Finset.univ.fold IntOp.minsi b f).toInt = Finset.univ.fold min b.toInt fun i => (f i).toInt := by
  refine (Finset.fold_hom (fun x y => ?_)).symm
  unfold IntOp.minsi
  simp only [BitVec.slt]
  split <;> rename_i h <;> simp at h <;> omega

/-- The least marked position: the signed minimum of the marked positions and a word above all of them. -/
theorem fold_first {w : Fin n} (hn : n < 2 ^ 31) (P : Fin n → Prop) [DecidablePred P] (hw : P w) (h : ∀ i, P i → w ≤ i) :
    (Finset.univ.fold IntOp.minsi (2147483647#32) fun i : Fin n => if P i then BitVec.ofNat 32 i.val else BitVec.ofNat 32 n)
      = BitVec.ofNat 32 w.val := by
  have hval : ∀ k : ℕ, k < 2 ^ 31 → (BitVec.ofNat 32 k).toInt = (k : ℤ) := fun k hk => by
    rw [BitVec.toInt_ofNat', Int.bmod_def]; omega
  refine BitVec.eq_of_toInt_eq ?_
  rw [toInt_fold_minsi, hval _ (w.isLt.trans hn)]
  refine le_antisymm ((Finset.fold_min_le _).mpr (.inr ⟨w, Finset.mem_univ w, ?_⟩))
    ((Finset.le_fold_min _).mpr ⟨?_, fun i _ => ?_⟩)
  · rw [if_pos hw, hval _ (w.isLt.trans hn)]
  · have := w.isLt
    rw [show (2147483647#32).toInt = 2147483647 by decide]; omega
  · split
    · rename_i hi
      rw [hval _ (i.isLt.trans hn)]
      exact_mod_cast h i hi
    · rw [hval _ hn]
      exact_mod_cast w.isLt.le

theorem ofBits_neg_inf : Ideal.ofBits .f32 4286578688#32 = (⊥ : EReal) := by
  simp [Ideal.ofBits, Ideal.ieee]

end Cert.Math

end
-- ==== Proof.Math.Soft.lean ====
/- A router over the extended reals: the softmax of a row of numbers is a row of positive numbers, and whatever the row,
   the gates kept from its softmax are nonnegative numbers. -/
module

public import proofs.«01_k».proof.Proof.Math.Fold

@[expose] public section

noncomputable section

namespace Cert.Math

open Idealize.ShloMosaic
open scoped BigOperators

variable {K n : ℕ}

/-- A row times a matrix, plus a bias. -/
def lin (x : Fin K → EReal) (w : Fin K → Fin n → EReal) (b : Fin n → EReal) (e : Fin n) : EReal :=
  ∑ k, x k * w k e + b e

/-- The softmax of a row. -/
def soft (l : Fin n → EReal) (e : Fin n) : EReal :=
  Ideal.div (Ideal.exp (l e - top l)) (∑ j, Ideal.exp (l j - top l))

/-- The entries of the first sixteen ranks, zero elsewhere. -/
def kept (f : Fin n → EReal) (e : Fin n) : EReal := if rank f e < 16 then f e else 0

/-- The kept entries scaled to the sum one. -/
def gate (f : Fin n → EReal) (e : Fin n) : EReal := Ideal.div (kept f e) (∑ j, kept f j)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lin_real {x : Fin K → EReal} {w : Fin K → Fin n → EReal} {b : Fin n → EReal} (hx : ∀ k, ∃ r : ℝ, x k = r)
    (hw : ∀ k e, ∃ r : ℝ, w k e = r) (hb : ∀ e, ∃ r : ℝ, b e = r) (e : Fin n) : ∃ r : ℝ, lin x w b e = r := by
  choose x' hx using hx
  choose w' hw using hw
  choose b' hb using hb
  refine ⟨∑ k, x' k * w' k e + b' e, ?_⟩
  unfold lin
  simp only [hx, hw, hb, EReal.coe_add, coe_sum, EReal.coe_mul]

theorem soft_real [NeZero n] {l : Fin n → EReal} (hl : ∀ e, ∃ r : ℝ, l e = r) (e : Fin n) :
    ∃ r : ℝ, 0 < r ∧ soft l e = r := by
  choose r hr using hl
  obtain ⟨w, hw⟩ := exists_top l
  have hexp : ∀ j, Ideal.exp (l j - top l) = ((Real.exp (r j - r w) : ℝ) : EReal) := fun j => by
    rw [hw, hr, hr, ← EReal.coe_sub, Ideal.exp_coe]
  have hpos : 0 < ∑ j, Real.exp (r j - r w) :=
    Finset.sum_pos (fun j _ => Real.exp_pos _) ⟨e, Finset.mem_univ e⟩
  refine ⟨Real.exp (r e - r w) * (1 / ∑ j, Real.exp (r j - r w)), by positivity, ?_⟩
  unfold soft
  simp only [hexp]
  rw [← coe_sum, Ideal.div_coe hpos.ne', ← EReal.coe_mul]

/-! ## Rows with infinite scores -/

theorem sum_bot {ι : Type} {s : Finset ι} {f : ι → EReal} {i : ι} (hi : i ∈ s) (h : f i = ⊥) : ∑ j ∈ s, f j = ⊥ := by
  classical
  rw [← Finset.add_sum_erase s f hi, h, EReal.bot_add]

theorem div_bot (x : EReal) : Ideal.div x ⊥ = 0 := by
  simp [Ideal.div]

/-- What a softmax is: nonnegative numbers, one of them positive, or minus infinity throughout. -/
def Weights (f : Fin n → EReal) : Prop :=
  (∃ s : Fin n → ℝ, (∀ e, 0 ≤ s e ∧ f e = s e) ∧ ∃ w, 0 < s w) ∨ ∀ e, f e = ⊥

theorem soft_weights [NeZero n] (l : Fin n → EReal) : Weights (soft l) := by
  obtain ⟨w, hw⟩ := exists_top l
  have bad (h : ∀ e, l e - top l = ⊥) : ∀ e, soft l e = ⊥ := fun e => by
    have hz : Ideal.exp ⊥ = 0 := rfl
    unfold soft
    simp only [h, hz, Finset.sum_const_zero]
    simp [Ideal.div]
  cases htop : top l using EReal.rec with
  | bot =>
    refine .inr (bad fun e => ?_)
    rw [show l e = ⊥ from le_bot_iff.mp (htop ▸ le_top l e), EReal.bot_sub]
  | top => exact .inr (bad fun e => by rw [htop, EReal.sub_top])
  | coe r =>
    have hexp : ∀ j, ∃ q : ℝ, 0 ≤ q ∧ Ideal.exp (l j - r) = q := fun j => by
      have hj : l j ≤ r := htop ▸ le_top l j
      cases hl : l j using EReal.rec with
      | bot => exact ⟨0, le_rfl, by rw [EReal.bot_sub]; rfl⟩
      | top => rw [hl] at hj; exact absurd (top_le_iff.mp hj) (EReal.coe_ne_top r)
      | coe a => exact ⟨Real.exp (a - r), (Real.exp_pos _).le, by rw [← EReal.coe_sub, Ideal.exp_coe]⟩
    choose q hq hqe using hexp
    have hone : q w = 1 := by
      have h := hqe w
      rw [← hw, htop, ← EReal.coe_sub, Ideal.exp_coe, sub_self, Real.exp_zero] at h
      exact (EReal.coe_eq_coe_iff.mp h).symm
    have hpos : 0 < ∑ j, q j :=
      Finset.sum_pos' (fun j _ => hq j) ⟨w, Finset.mem_univ w, by rw [hone]; exact one_pos⟩
    refine .inl ⟨fun e => q e * (1 / ∑ j, q j), fun e => ⟨mul_nonneg (hq e) (by positivity), ?_⟩, w, ?_⟩
    · unfold soft
      simp only [htop, hqe]
      rw [← coe_sum, Ideal.div_coe hpos.ne', ← EReal.coe_mul]
    · show 0 < q w * (1 / ∑ j, q j)
      rw [hone]; positivity

/-- The kept entries sum to a positive number, or the row is minus infinity and so is the sum. -/
theorem sum_kept {f : Fin n → EReal} (hn : 0 < n) (hf : Weights f) :
    (∃ S : ℝ, 0 < S ∧ (∑ j, kept f j) = S ∧ ∀ e, ∃ k : ℝ, 0 ≤ k ∧ kept f e = k) ∨ (∑ j, kept f j) = ⊥ := by
  obtain ⟨w, hw⟩ := exists_rank f hn
  rcases hf with ⟨s, hs, v, hv⟩ | hf
  · have hkept : ∀ j, kept f j = ((if rank f j < 16 then s j else 0 : ℝ) : EReal) := fun j => by
      unfold kept
      split <;> simp [(hs _).2]
    have hnn : ∀ j, 0 ≤ (if rank f j < 16 then s j else 0 : ℝ) := fun j => by
      split
      · exact (hs j).1
      · exact le_rfl
    have hle : s v ≤ s w := by
      by_contra hlt
      have hb : beats f v w := .inl (by
        rw [(hs v).2, (hs w).2]; exact EReal.coe_lt_coe_iff.mpr (not_le.mp hlt))
      have := rank_lt_of_beats hb
      omega
    refine .inl ⟨∑ j, (if rank f j < 16 then s j else 0 : ℝ), Finset.sum_pos' (fun j _ => hnn j)
      ⟨w, Finset.mem_univ w, by rw [if_pos (by omega)]; exact hv.trans_le hle⟩, ?_, fun e => ⟨_, hnn e, hkept e⟩⟩
    simp only [hkept]
    rw [coe_sum]
  · refine .inr (sum_bot (Finset.mem_univ w) ?_)
    unfold kept
    rw [if_pos (by omega), hf]

theorem gate_real (hn : 0 < n) {f : Fin n → EReal} (hf : Weights f) (e : Fin n) : ∃ r : ℝ, 0 ≤ r ∧ gate f e = r := by
  unfold gate
  rcases sum_kept hn hf with ⟨S, hS, hsum, hk⟩ | hsum
  · obtain ⟨k, hk, hke⟩ := hk e
    exact ⟨k * (1 / S), by positivity, by rw [hsum, hke, Ideal.div_coe hS.ne', ← EReal.coe_mul]⟩
  · exact ⟨0, le_rfl, by rw [hsum, div_bot]; rfl⟩

/-- An expert that is not kept has gate zero. -/
theorem gate_zero {f : Fin n → EReal} (hf : Weights f) (e : Fin n) (h : ¬ rank f e < 16) : gate f e = 0 := by
  unfold gate
  rcases sum_kept (Fin.pos e) hf with ⟨S, hS, hsum, -⟩ | hsum
  · rw [hsum, kept, if_neg h, Ideal.div_coe hS.ne', zero_mul]
  · rw [hsum, div_bot]

/-- Of a row that is minus infinity throughout every gate is zero. -/
theorem gate_bot {f : Fin n → EReal} (hf : ∀ e, f e = ⊥) (e : Fin n) : gate f e = 0 := by
  obtain ⟨w, hw⟩ := exists_rank f (Fin.pos e)
  unfold gate
  rw [sum_bot (Finset.mem_univ w) (by unfold kept; rw [if_pos (by omega), hf]), div_bot]

end Cert.Math

end
-- ==== Proof.Math.Gelu.lean ====
/- One expert over the extended reals: the kernel scales the hidden layer by half the gate and multiplies out the
   cubic; the reference scales the expert's output by the gate. Over numbers the two agree, for any second layer. -/
module

public import proofs.«01_k».proof.Proof.Math.Soft

@[expose] public section

noncomputable section

namespace Cert.Math

open Idealize.ShloMosaic
open scoped BigOperators

variable {K n : ℕ}

/-- The tanh approximation of the gelu, as the reference writes it. -/
def act (z : EReal) : EReal :=
  z * (Ideal.ofBits .f32 1056964608#32 * (1 + Ideal.tanh (Ideal.ofBits .f32 1061962282#32 *
    (z + Ideal.ofBits .f32 1027024659#32 * (z * z * z)))))

/-- A hidden unit of the kernel, scaled by the gate `g`. -/
def hidden (c g z : EReal) : EReal :=
  z * (Ideal.ofBits .f32 1056964608#32 * g) + z * (Ideal.ofBits .f32 1056964608#32 * g)
    * Ideal.tanh ((c * (z * z) + Ideal.ofBits .f32 1061962282#32) * z)

theorem ofBits_half : Ideal.ofBits .f32 1056964608#32 = ((1 / 2 : ℝ) : EReal) := by
  simp [Ideal.ofBits, Ideal.ieee, -EReal.coe_mul]; norm_num

theorem ofBits_root : Ideal.ofBits .f32 1061962282#32 = ((13386282 / 16777216 : ℝ) : EReal) := by
  simp [Ideal.ofBits, Ideal.ieee, -EReal.coe_mul]; norm_num

theorem ofBits_cube : Ideal.ofBits .f32 1027024659#32 = ((12003091 / 268435456 : ℝ) : EReal) := by
  simp [Ideal.ofBits, Ideal.ieee, -EReal.coe_mul]; norm_num

/-- The product of the two 32-bit literals. -/
def c2 : EReal := ((80338380498831 / 2251799813685248 : ℝ) : EReal)

theorem hidden_eq {g z : EReal} (hg : ∃ r : ℝ, g = r) (hz : ∃ r : ℝ, z = r) : hidden c2 g z = g * act z := by
  obtain ⟨g, rfl⟩ := hg
  obtain ⟨z, rfl⟩ := hz
  have harg : ((80338380498831 / 2251799813685248 : ℝ) * (z * z) + 13386282 / 16777216) * z
      = 13386282 / 16777216 * (z + 12003091 / 268435456 * (z * z * z)) := by ring
  unfold hidden act c2
  simp only [ofBits_half, ofBits_root, ofBits_cube, ← EReal.coe_mul, ← EReal.coe_add, ← EReal.coe_one, Ideal.tanh_coe]
  rw [harg]
  congr 1
  ring

theorem mul_add_real {g : EReal} (hg : ∃ r : ℝ, 0 ≤ r ∧ g = r) (a b : EReal) : g * (a + b) = g * a + g * b := by
  obtain ⟨r, hr, rfl⟩ := hg
  exact EReal.left_distrib_of_nonneg_of_ne_top (EReal.coe_nonneg.mpr hr) (EReal.coe_ne_top r) a b

theorem mul_sum_real {ι : Type} (s : Finset ι) {g : EReal} (hg : ∃ r : ℝ, 0 ≤ r ∧ g = r) (f : ι → EReal) :
    g * ∑ i ∈ s, f i = ∑ i ∈ s, g * f i := by
  classical
  induction s using Finset.induction_on with
  | empty => simp
  | insert a s ha ih => rw [Finset.sum_insert ha, Finset.sum_insert ha, mul_add_real hg, ih]

/-- The kernel's term of one expert, without its output bias. -/
def share (g : EReal) (z : Fin K → EReal) (w : Fin K → EReal) : EReal := ∑ k, hidden c2 g (z k) * w k

/-- The reference's output of one expert, without its output bias. -/
def mlp (z : Fin K → EReal) (w : Fin K → EReal) : EReal := ∑ k, w k * act (z k)

theorem share_eq {g : EReal} (hg : ∃ r : ℝ, 0 ≤ r ∧ g = r) {z : Fin K → EReal} (hz : ∀ k, ∃ r : ℝ, z k = r)
    (w : Fin K → EReal) : share g z w = g * mlp z w := by
  unfold share mlp
  rw [mul_sum_real _ hg]
  refine Finset.sum_congr rfl fun k _ => ?_
  obtain ⟨r, -, h⟩ := hg
  rw [hidden_eq ⟨r, h⟩ (hz k), mul_assoc, mul_comm (act _)]

/-- A sum against the indicator of one position. -/
theorem sum_indicator (g : Fin n → EReal) (e : Fin n) (o : Fin n → EReal) (he : o e = 1) (ho : ∀ j, j ≠ e → o j = 0) :
    ∑ j, g j * o j = g e := by
  rw [Finset.sum_eq_single e (fun j _ hj => by rw [ho j hj, mul_zero]) (fun h => absurd (Finset.mem_univ e) h), he,
    mul_one]

/-- The experts' terms and then the weighted biases are the weighted outputs of the experts. -/
theorem sum_outputs {m : ℕ} {g : Fin n → EReal} {h : Fin m → EReal} (hg : ∀ e, ∃ r : ℝ, 0 ≤ r ∧ g e = r)
    (hh : ∀ e, ∃ r : ℝ, 0 ≤ r ∧ h e = r) (y b : Fin n → EReal) (u c : Fin m → EReal) :
    (∑ e, g e * y e + ∑ e, h e * u e) + (∑ e, g e * b e + ∑ e, h e * c e)
      = ∑ e, g e * (y e + b e) + ∑ e, h e * (u e + c e) := by
  rw [add_add_add_comm, ← Finset.sum_add_distrib, ← Finset.sum_add_distrib]
  congr 1 <;> refine Finset.sum_congr rfl fun e _ => (mul_add_real ?_ _ _).symm
  · exact hg e
  · exact hh e

end Cert.Math

end
-- ==== Proof.Math.Spec.lean ====
/- The mixture of experts as mathematics: what the two results are, as functions of the thirteen arguments, and that
   finite arguments make every weight and every hidden unit a number. -/
module

public import proofs.«01_k».proof.Proof.Math.Soft
public import proofs.«01_k».proof.Proof.Math.Gelu
public import Idealize.ShloMosaic.Lib.Pointwise

@[expose] public section

noncomputable section

namespace Cert.Math

open Idealize.ShloMosaic
open scoped BigOperators

/-- Per expert the share of the tokens counted for it times its mean probability, summed, times the number of
    experts. -/
def balance {n T : ℕ} (k p : Fin T → Fin n → EReal) : EReal :=
  Ideal.ofBits .f32 1107296256#32 * ∑ e,
    Ideal.div (∑ t, k t e) (Ideal.ofBits .f32 1157627904#32)
      * Ideal.div (∑ t, p t e) (Ideal.ofBits .f32 1157627904#32)

/-- The load-balancing loss of the routers' probabilities: an expert counts the tokens that keep it. -/
def loss {n T : ℕ} (p : Fin T → Fin n → EReal) : EReal :=
  balance (fun t e => if rank (p t) e < 16 then 1 else 0) p

theorem ofBits_tokens : Ideal.ofBits .f32 1157627904#32 = ((2048 : ℝ) : EReal) := by
  simp [Ideal.ofBits, Ideal.ieee, -EReal.coe_mul]; norm_num

theorem ofBits_experts : Ideal.ofBits .f32 1107296256#32 = ((32 : ℝ) : EReal) := by
  simp [Ideal.ofBits, Ideal.ieee, -EReal.coe_mul]; norm_num

/-- One token whose probabilities are minus infinity, counted for some expert, makes the loss minus infinity. -/
theorem balance_bot {n T : ℕ} {k p : Fin T → Fin n → EReal} (hk : ∀ t e, k t e = 0 ∨ k t e = 1) {t : Fin T} {e : Fin n}
    (hp : p t e = ⊥) (h1 : k t e = 1) : balance k p = ⊥ := by
  have hr : ∀ t, ∃ r : ℝ, 0 ≤ r ∧ k t e = r := fun t => by
    rcases hk t e with h | h
    · exact ⟨0, le_rfl, by rw [h]; rfl⟩
    · exact ⟨1, zero_le_one, by rw [h]; rfl⟩
  choose r hr hkr using hr
  have hrt : r t = 1 := by
    have h := hkr t
    rw [h1] at h
    exact (EReal.coe_eq_coe_iff.mp (show ((1 : ℝ) : EReal) = r t from h)).symm
  have hpos : 0 < ∑ t, r t :=
    Finset.sum_pos' (fun t _ => hr t) ⟨t, Finset.mem_univ t, by rw [hrt]; exact one_pos⟩
  unfold balance
  rw [ofBits_tokens, ofBits_experts, sum_bot (Finset.mem_univ e), EReal.coe_mul_bot_of_pos (by norm_num)]
  rw [sum_bot (f := fun t => p t e) (Finset.mem_univ t) hp]
  simp only [hkr]
  rw [← coe_sum, Ideal.div_coe (by norm_num), Ideal.div_coe (by norm_num), EReal.bot_mul_coe_of_pos (by norm_num),
    ← EReal.coe_mul, EReal.coe_mul_bot_of_pos (by positivity)]

/-- The arguments of the layer, as plain functions of their indices. -/
structure Args where
  /-- The tokens. -/
  x : Fin 2048 → Fin 768 → EReal
  /-- The routed router's weights and bias. -/
  gw : Fin 768 → Fin 32 → EReal
  gb : Fin 32 → EReal
  /-- The routed experts' weights and biases. -/
  w1 : Fin 32 → Fin 768 → Fin 768 → EReal
  b1 : Fin 32 → Fin 768 → EReal
  w2 : Fin 32 → Fin 768 → Fin 768 → EReal
  b2 : Fin 32 → Fin 768 → EReal
  /-- The shared router's weights and bias. -/
  gws : Fin 768 → Fin 4 → EReal
  gbs : Fin 4 → EReal
  /-- The shared experts' weights and biases. -/
  w1s : Fin 4 → Fin 768 → Fin 768 → EReal
  b1s : Fin 4 → Fin 768 → EReal
  w2s : Fin 4 → Fin 768 → Fin 768 → EReal
  b2s : Fin 4 → Fin 768 → EReal

namespace Args

/-- The arguments read off the thirteen arrays. -/
def of (x0 : FVec Ideal ⟨2, ![2048, 768]⟩ .f32) (x1 : FVec Ideal ⟨2, ![768, 32]⟩ .f32) (x2 : FVec Ideal ⟨1, ![32]⟩ .f32)
    (x3 : FVec Ideal ⟨3, ![32, 768, 768]⟩ .f32) (x4 : FVec Ideal ⟨2, ![32, 768]⟩ .f32)
    (x5 : FVec Ideal ⟨3, ![32, 768, 768]⟩ .f32) (x6 : FVec Ideal ⟨2, ![32, 768]⟩ .f32)
    (x7 : FVec Ideal ⟨2, ![768, 4]⟩ .f32) (x8 : FVec Ideal ⟨1, ![4]⟩ .f32) (x9 : FVec Ideal ⟨3, ![4, 768, 768]⟩ .f32)
    (x10 : FVec Ideal ⟨2, ![4, 768]⟩ .f32) (x11 : FVec Ideal ⟨3, ![4, 768, 768]⟩ .f32)
    (x12 : FVec Ideal ⟨2, ![4, 768]⟩ .f32) : Args where
  x t k := x0 (ix2 t k)
  gw k e := x1 (ix2 k e)
  gb e := x2 (ix1 e)
  w1 e k j := x3 (ix3 e k j)
  b1 e j := x4 (ix2 e j)
  w2 e k d := x5 (ix3 e k d)
  b2 e d := x6 (ix2 e d)
  gws k e := x7 (ix2 k e)
  gbs e := x8 (ix1 e)
  w1s e k j := x9 (ix3 e k j)
  b1s e j := x10 (ix2 e j)
  w2s e k d := x11 (ix3 e k d)
  b2s e d := x12 (ix2 e d)

variable (a : Args)

/-- The routed router's probabilities for token `t`. -/
def prob (t : Fin 2048) : Fin 32 → EReal := soft (lin (a.x t) a.gw a.gb)
/-- The shared router's probabilities for token `t`. -/
def probS (t : Fin 2048) : Fin 4 → EReal := soft (lin (a.x t) a.gws a.gbs)
/-- The hidden units of routed expert `e` for token `t`, before the activation. -/
def pre (t : Fin 2048) (e : Fin 32) : Fin 768 → EReal := lin (a.x t) (a.w1 e) (a.b1 e)
/-- The hidden units of shared expert `e` for token `t`, before the activation. -/
def preS (t : Fin 2048) (e : Fin 4) : Fin 768 → EReal := lin (a.x t) (a.w1s e) (a.b1s e)

/-- The first result: the experts' outputs, weighted by the gates kept for the routed experts and by the probabilities
    of the shared ones. -/
def out (t : Fin 2048) (d : Fin 768) : EReal :=
  ∑ e, gate (a.prob t) e * (mlp (a.pre t e) (fun k => a.w2 e k d) + a.b2 e d)
    + ∑ e, a.probS t e * (mlp (a.preS t e) (fun k => a.w2s e k d) + a.b2s e d)

/-- The second result: the load-balancing loss. -/
def aux : EReal := loss a.prob

/-- The tokens, the shared router and the experts' first layers are numbers. -/
structure Finite : Prop where
  x : ∀ t k, ∃ r : ℝ, a.x t k = r
  w1 : ∀ e k j, ∃ r : ℝ, a.w1 e k j = r
  b1 : ∀ e j, ∃ r : ℝ, a.b1 e j = r
  gws : ∀ k e, ∃ r : ℝ, a.gws k e = r
  gbs : ∀ e, ∃ r : ℝ, a.gbs e = r
  w1s : ∀ e k j, ∃ r : ℝ, a.w1s e k j = r
  b1s : ∀ e j, ∃ r : ℝ, a.b1s e j = r

variable {a}

theorem Finite.scoreS (h : a.Finite) (t : Fin 2048) (e : Fin 4) : ∃ r : ℝ, lin (a.x t) a.gws a.gbs e = r :=
  lin_real (h.x t) h.gws h.gbs e
theorem Finite.pre (h : a.Finite) (t : Fin 2048) (e : Fin 32) (j : Fin 768) : ∃ r : ℝ, a.pre t e j = r :=
  lin_real (h.x t) (h.w1 e) (h.b1 e) j
theorem Finite.preS (h : a.Finite) (t : Fin 2048) (e : Fin 4) (j : Fin 768) : ∃ r : ℝ, a.preS t e j = r :=
  lin_real (h.x t) (h.w1s e) (h.b1s e) j
theorem Finite.probS (h : a.Finite) (t : Fin 2048) (e : Fin 4) : ∃ r : ℝ, 0 ≤ r ∧ a.probS t e = r :=
  (soft_real (h.scoreS t) e).imp fun _ hr => ⟨hr.1.le, hr.2⟩
theorem prob_weights (t : Fin 2048) : Weights (a.prob t) := soft_weights _
theorem gate_real (t : Fin 2048) (e : Fin 32) : ∃ r : ℝ, 0 ≤ r ∧ gate (a.prob t) e = r :=
  Math.gate_real (by decide) (prob_weights t) e

end Args

end Cert.Math

end
-- ==== Proof.Value.Rounds.lean ====
/- The routed kernel's selection, round by round: sixteen times it strikes the first largest remaining probability of
   each token. After `n` rounds it has selected the positions of rank below `n`. -/
module

public import proofs.«01_k».proof.Proof.Math.Fold
public import proofs.«01_k».proof.Proof.KernelIdeal.Body0

@[expose] public section

noncomputable section

namespace Cert.KernelIdeal.Value

open Idealize.ShloMosaic Cert.KernelIdeal Cert.KernelIdeal.Gen

section
variable {F : FTy → Type} [FloatOps F] [Named F]

/-- The first largest entry of each column. -/
def pick (p : FVec F S32x2048 .f32) : IVec S32x2048 1 :=
  cmpi .eq (iota .tc S32x2048 32 [0] iota_S32x2048_d0_w32)
    (broadcastTo S32x2048 (shapeCast S1x2048 (multiReductionI .minsi [0] S2048
      (select (cmpf .oeq p (broadcastTo S32x2048 (shapeCast S1x2048
          (multiReduction .maximumf [0] S2048 p 0xFF800000#32 reduces_S32x2048_S2048 (.inl rfl) rfl)
          shapeCasts_S2048_S1x2048) broadcasts_S1x2048_S32x2048))
        (iota .tc S32x2048 32 [0] iota_S32x2048_d0_w32) (broadcast S32x2048 32#32))
      2147483647#32 reduces_S32x2048_S2048 rfl) shapeCasts_S2048_S1x2048) broadcasts_S1x2048_S32x2048)

/-- The columns with their picked entries struck out. -/
def strike (p : FVec F S32x2048 .f32) : FVec F S32x2048 .f32 :=
  select (pick p) (broadcast S32x2048 (Scalar.ofBits .f32 0xFF800000#32 : F .f32)) p

/-- What `n` rounds leave of the columns. -/
def remain (p : FVec F S32x2048 .f32) : ℕ → FVec F S32x2048 .f32
  | 0 => p
  | n + 1 => strike (remain p n)

/-- What `n` rounds select. -/
def chosen (p : FVec F S32x2048 .f32) : ℕ → IVec S32x2048 1
  | 0 => broadcast S32x2048 0#1
  | n + 1 => ori (chosen p n) (pick (remain p n))

/-- The kernel's selection is what sixteen rounds select. -/
theorem sel0_eq (x : Vec F S2048x768 .f32) (gw : Vec F S768x32 .f32) (gb : Vec F S1x32 .f32) :
    sel0 x gw gb = chosen (k0_pay2 x gw gb) 16 := rfl

end

/-- A column of a matrix of probabilities. -/
def col (p : FVec Ideal S32x2048 .f32) (t : Fin 2048) (e : Fin 32) : EReal := p (ix2 e t)

/-- The pick of a column is its first largest entry. -/
theorem pick_first (p : FVec Ideal S32x2048 .f32) (t : Fin 2048) (w : Fin 32)
    (hw : p (ix2 w t) = Math.top fun e => p (ix2 e t)) (hmin : ∀ i, p (ix2 i t) = (Math.top fun e => p (ix2 e t)) → w ≤ i)
    (e : Fin 32) : pick p (ix2 e t) = if e = w then 1#1 else 0#1 := by
  have hfirst := Math.fold_first (n := 32) (w := w) (by decide)
    (fun i => p (ix2 i t) = Math.top (fun e => p (ix2 e t))) hw hmin
  pointwise [pick]
  rw [Math.ofBits_neg_inf]
  unfold Math.top at hfirst
  rw [hfirst]
  by_cases h : e = w
  · rw [if_pos h, h]; simp [IntOp.cmpi]
  · rw [if_neg h]
    have hne : BitVec.ofNat 32 e.val ≠ BitVec.ofNat 32 w.val := fun hb => h <| by
      have := congrArg BitVec.toNat hb
      simp only [BitVec.toNat_ofNat] at this
      exact Fin.ext (by omega)
    rw [IntOp.cmpi, beq_eq_false_iff_ne.mpr hne]; rfl

theorem pick_apply (p : FVec Ideal S32x2048 .f32) (f : Fin 32 → EReal) (hf : ∀ e, f e ≠ ⊥) {m : ℕ} (hm : m < 32)
    (t : Fin 2048) (hp : ∀ e, p (ix2 e t) = Math.left f m e) (e : Fin 32) :
    pick p (ix2 e t) = if Math.rank f e = m then 1#1 else 0#1 := by
  obtain ⟨w, hw⟩ := Math.exists_rank f hm
  obtain ⟨h1, h2, h3⟩ := Math.left_max hf hw
  have htop : Math.top (fun e => p (ix2 e t)) = f w :=
    Math.top_eq (w := w) ((hp w).trans h1) fun i => (hp i).trans_le (h2 i)
  rw [pick_first p t w (by rw [htop, hp, h1]) (fun i hi => h3 i (by rw [← hp, hi, htop]))]
  have hinj : e = w ↔ Math.rank f e = m := by
    rw [← hw]; exact ⟨fun h => by rw [h], fun h => Math.rank_injective f h⟩
  simp only [hinj]

/-- In a column that is minus infinity throughout the first round selects the first entry. -/
theorem chosen_bot (p : FVec Ideal S32x2048 .f32) (t : Fin 2048) (hf : ∀ e, p (ix2 e t) = ⊥) (n : ℕ) :
    chosen p (n + 1) (ix2 0 t) = 1#1 := by
  induction n with
  | zero =>
    have htop : (Math.top fun e => p (ix2 e t)) = ⊥ := Math.top_eq (w := 0) (hf 0) fun i => (hf i).le
    have hpick := pick_first p t 0 ((hf 0).trans htop.symm) (fun i _ => Fin.zero_le i) 0
    rw [show chosen p (0 + 1) = ori (broadcast S32x2048 0#1) (pick p) from rfl]
    pointwise
    rw [hpick, if_pos rfl]; decide
  | succ n ih =>
    rw [show chosen p (n + 1 + 1) = ori (chosen p (n + 1)) (pick (remain p (n + 1))) from rfl]
    pointwise
    rw [ih]
    generalize pick (remain p (n + 1)) (ix2 0 t) = b
    revert b; decide

theorem remain_apply (p : FVec Ideal S32x2048 .f32) (t : Fin 2048) (hf : ∀ e, col p t e ≠ ⊥) (n : ℕ) (hn : n ≤ 32)
    (e : Fin 32) : remain p n (ix2 e t) = Math.left (col p t) n e := by
  induction n generalizing e with
  | zero => simp [Math.left, remain, col]
  | succ n ih =>
    have hpick := pick_apply (remain p n) (col p t) hf (m := n) (by omega) t (fun e => ih (by omega) e) e
    rw [Math.left_succ, ← ih (by omega) e]
    rw [show remain p (n + 1) = strike (remain p n) from rfl]
    pointwise [strike]
    rw [hpick, Math.ofBits_neg_inf]
    split <;> simp [Scalar.select]

theorem chosen_apply (p : FVec Ideal S32x2048 .f32) (t : Fin 2048) (hf : ∀ e, col p t e ≠ ⊥) (n : ℕ) (hn : n ≤ 32)
    (e : Fin 32) : chosen p n (ix2 e t) = if Math.rank (col p t) e < n then 1#1 else 0#1 := by
  induction n with
  | zero => rw [if_neg (by omega)]; rfl
  | succ n ih =>
    have hpick := pick_apply (remain p n) (col p t) hf (m := n) (by omega) t
      (fun e => remain_apply p t hf n (by omega) e) e
    rw [show chosen p (n + 1) = ori (chosen p n) (pick (remain p n)) from rfl]
    pointwise
    rw [hpick, ih (by omega)]
    by_cases h : Math.rank (col p t) e = n
    · rw [if_pos h, if_neg (by omega), if_pos (by omega)]; decide
    · rw [if_neg h]
      by_cases h' : Math.rank (col p t) e < n
      · rw [if_pos h', if_pos (by omega)]; decide
      · rw [if_neg h', if_neg (by omega)]; decide

end Cert.KernelIdeal.Value

end
-- ==== Proof.Value.Payloads.lean ====
/- What the two kernels' payloads are at an index: the routers' softmax, the kept gates, the auxiliary loss, and one
   expert's term. -/
module

public import proofs.«01_k».proof.Proof.Math.Spec
public import proofs.«01_k».proof.Proof.Value.Rounds
public import proofs.«01_k».proof.Proof.KernelIdeal.Body1

@[expose] public section

noncomputable section

namespace Cert.KernelIdeal.Value

open Idealize.ShloMosaic Cert.KernelIdeal Cert.KernelIdeal.Gen
open scoped BigOperators

/-- The routed router's scores of token `t`. -/
def score0 (x : FVec Ideal S2048x768 .f32) (gw : FVec Ideal S768x32 .f32) (gb : FVec Ideal S1x32 .f32) (t : Fin 2048) :
    Fin 32 → EReal :=
  Math.lin (fun k => x (ix2 t k)) (fun k e => gw (ix2 k e)) (fun e => gb (ix2 0 e))

/-- The shared router's scores of token `t`. -/
def score1 (x : FVec Ideal S2048x768 .f32) (gw : FVec Ideal S768x4 .f32) (gb : FVec Ideal S1x4 .f32) (t : Fin 2048) :
    Fin 4 → EReal :=
  Math.lin (fun k => x (ix2 t k)) (fun k e => gw (ix2 k e)) (fun e => gb (ix2 0 e))

theorem soft0_apply (x : FVec Ideal S2048x768 .f32) (gw : FVec Ideal S768x32 .f32) (gb : FVec Ideal S1x32 .f32)
    (e : Fin 32) (t : Fin 2048) : k0_pay2 (F := Ideal) x gw gb (ix2 e t) = Math.soft (score0 x gw gb t) e := by
  pointwise [k0_pay2]
  rw [Math.ofBits_neg_inf]
  rfl

theorem keep1_apply (x : FVec Ideal S2048x768 .f32) (gw : FVec Ideal S768x4 .f32) (gb : FVec Ideal S1x4 .f32)
    (e : Fin 4) (t : Fin 2048) : keep1 (F := Ideal) x gw gb (ix2 t e) = Math.soft (score1 x gw gb t) e := by
  pointwise [keep1, k1_pay4]
  rw [Math.ofBits_neg_inf]
  rfl

/-- The probabilities as the selection sees them: columns of positive numbers. -/
theorem col_eq (x : FVec Ideal S2048x768 .f32) (gw : FVec Ideal S768x32 .f32) (gb : FVec Ideal S1x32 .f32)
    (t : Fin 2048) : col (k0_pay2 (F := Ideal) x gw gb) t = Math.soft (score0 x gw gb t) :=
  funext fun e => soft0_apply x gw gb e t

/-- The selection, of a token whose probabilities are numbers. -/
theorem sel0_apply (x : FVec Ideal S2048x768 .f32) (gw : FVec Ideal S768x32 .f32) (gb : FVec Ideal S1x32 .f32)
    (t : Fin 2048) (hl : ∀ e, Math.soft (score0 x gw gb t) e ≠ ⊥) (e : Fin 32) :
    sel0 (F := Ideal) x gw gb (ix2 e t) = if Math.rank (Math.soft (score0 x gw gb t)) e < 16 then 1#1 else 0#1 := by
  rw [sel0_eq, chosen_apply _ t (fun e => by rw [col_eq]; exact hl e) 16 (by decide) e, col_eq]

/-- The selection, of a token whose probabilities are minus infinity: it has the first expert. -/
theorem sel0_bot (x : FVec Ideal S2048x768 .f32) (gw : FVec Ideal S768x32 .f32) (gb : FVec Ideal S1x32 .f32)
    (t : Fin 2048) (hl : ∀ e, Math.soft (score0 x gw gb t) e = ⊥) : sel0 (F := Ideal) x gw gb (ix2 0 t) = 1#1 := by
  rw [sel0_eq, chosen_bot _ t (fun e => by rw [soft0_apply]; exact hl e) 15]

theorem weights_ne_bot {n : ℕ} {f : Fin n → EReal}
    (h : ∃ s : Fin n → ℝ, (∀ e, 0 ≤ s e ∧ f e = s e) ∧ ∃ w, 0 < s w) (e : Fin n) : f e ≠ ⊥ := by
  obtain ⟨s, hs, -⟩ := h
  rw [(hs e).2]
  exact EReal.coe_ne_bot _

theorem keep0_apply (x : FVec Ideal S2048x768 .f32) (gw : FVec Ideal S768x32 .f32) (gb : FVec Ideal S1x32 .f32)
    (t : Fin 2048) (e : Fin 32) :
    keep0 (F := Ideal) x gw gb (ix2 t e) = Math.gate (Math.soft (score0 x gw gb t)) e := by
  have hquot : Ideal.div (Scalar.select (sel0 (F := Ideal) x gw gb (ix2 e t)) (k0_pay2 (F := Ideal) x gw gb (ix2 e t)) (0 : EReal))
      (∑ j, Scalar.select (sel0 (F := Ideal) x gw gb (ix2 j t)) (k0_pay2 (F := Ideal) x gw gb (ix2 j t)) (0 : EReal))
      = Math.gate (Math.soft (score0 x gw gb t)) e := by
    rcases Math.soft_weights (score0 x gw gb t) with h | h
    · have hkept : ∀ e, Scalar.select (sel0 (F := Ideal) x gw gb (ix2 e t)) (k0_pay2 (F := Ideal) x gw gb (ix2 e t)) (0 : EReal)
          = Math.kept (Math.soft (score0 x gw gb t)) e := fun e => by
        rw [sel0_apply x gw gb t (weights_ne_bot h), soft0_apply]
        unfold Math.kept
        split <;> rfl
      simp only [hkept]
      rfl
    · rw [Math.gate_bot h, Math.sum_bot (Finset.mem_univ (0 : Fin 32)) (by rw [sel0_bot x gw gb t h, soft0_apply, h]; rfl),
        Math.div_bot]
  unfold keep0
  generalize sel0 (F := Ideal) x gw gb = s at hquot
  generalize k0_pay2 (F := Ideal) x gw gb = p at hquot
  pointwise [k0_pay37, k0_pay36, k0_pay35]
  exact hquot

/-- The copy of the gates for the second kernel is the copy the first one keeps. -/
theorem gates0_apply (x : FVec Ideal S2048x768 .f32) (gw : FVec Ideal S768x32 .f32) (gb : FVec Ideal S1x32 .f32)
    (t : Fin 2048) (e : Fin 32) : gates0 (F := Ideal) x gw gb (ix2 t e) = keep0 (F := Ideal) x gw gb (ix2 t e) := by
  unfold gates0 keep0
  pointwise [k0_pay37]

/-- A bit read as a number. -/
theorem bit_zero : (FloatOps.sitofp (F := Ideal) .f32 (BitVec.setWidth 32 0#1) : EReal) = 0 := by
  show (((BitVec.setWidth 32 0#1).toInt : ℝ) : EReal) = 0
  rw [show (BitVec.setWidth 32 0#1).toInt = 0 by decide]; simp
theorem bit_one : (FloatOps.sitofp (F := Ideal) .f32 (BitVec.setWidth 32 1#1) : EReal) = 1 := by
  show (((BitVec.setWidth 32 1#1).toInt : ℝ) : EReal) = 1
  rw [show (BitVec.setWidth 32 1#1).toInt = 1 by decide]; simp
theorem bit_cases (b : BitVec 1) : (FloatOps.sitofp (F := Ideal) .f32 (BitVec.setWidth 32 b) : EReal) = 0
    ∨ (FloatOps.sitofp (F := Ideal) .f32 (BitVec.setWidth 32 b) : EReal) = 1 := by
  rcases (by revert b; decide : b = 0#1 ∨ b = 1#1) with rfl | rfl
  · exact .inl bit_zero
  · exact .inr bit_one

theorem aux0_apply (x : FVec Ideal S2048x768 .f32) (gw : FVec Ideal S768x32 .f32) (gb : FVec Ideal S1x32 .f32) :
    aux0 (F := Ideal) x gw gb (ix2 0 0) = Math.loss fun t => Math.soft (score0 x gw gb t) := by
  have hbal : Math.balance
      (fun t e => (FloatOps.sitofp (F := Ideal) .f32 (BitVec.setWidth 32 (sel0 (F := Ideal) x gw gb (ix2 e t))) : EReal))
      (fun t => Math.soft (score0 x gw gb t)) = Math.loss fun t => Math.soft (score0 x gw gb t) := by
    by_cases h : ∀ t, ∃ s : Fin 32 → ℝ, (∀ e, 0 ≤ s e ∧ Math.soft (score0 x gw gb t) e = s e) ∧ ∃ w, 0 < s w
    · refine congrArg (fun k => Math.balance k _) (funext fun t => funext fun e => ?_)
      rw [sel0_apply x gw gb t (weights_ne_bot (h t))]
      split
      · exact bit_one
      · exact bit_zero
    · obtain ⟨t, ht⟩ := not_forall.mp h
      have hbot := (Math.soft_weights (score0 x gw gb t)).resolve_left ht
      obtain ⟨w, hw⟩ := Math.exists_rank (Math.soft (score0 x gw gb t)) (m := 0) (by decide)
      rw [Math.balance_bot (fun t e => bit_cases _) (t := t) (e := 0) (hbot 0) (by rw [sel0_bot x gw gb t hbot]; exact bit_one)]
      exact (Math.balance_bot (fun t e => by split; exacts [.inr rfl, .inl rfl]) (t := t) (e := w) (hbot w)
        (if_pos (hw.trans_lt (by decide)))).symm
  have hsoft : ∀ t e, k0_pay2 (F := Ideal) x gw gb (ix2 e t) = Math.soft (score0 x gw gb t) e :=
    fun t e => soft0_apply x gw gb e t
  rw [← hbal]
  unfold aux0
  generalize sel0 (F := Ideal) x gw gb = s
  generalize k0_pay2 (F := Ideal) x gw gb = p at hsoft
  pointwise [k0_pay38]
  simp only [hsoft]
  rfl

/-- The kernel's named constant. -/
theorem named_c2 : (Named.named (F := Ideal) κ "c2" (φ := .f32) 1024598649#32 : EReal) = Math.c2 :=
  IdealRules.named_const.ideal_named_scalar _ _ _ _ rfl

/-- The indicator of one expert, as a word compared and converted. -/
theorem indicator {n : ℕ} (hn : n < 2 ^ 32) (j e : Fin n) :
    (FloatOps.sitofp (F := Ideal) .f32 (BitVec.setWidth 32 (IntOp.cmpi CmpIPredicate.eq (BitVec.ofNat 32 j.val)
      (BitVec.ofNat 32 e.val))) : EReal) = if j = e then 1 else 0 := by
  by_cases h : j = e
  · subst h
    rw [if_pos rfl, show IntOp.cmpi CmpIPredicate.eq (BitVec.ofNat 32 j.val) (BitVec.ofNat 32 j.val) = 1#1 by
      simp [IntOp.cmpi]]
    show (((BitVec.setWidth 32 1#1).toInt : ℝ) : EReal) = 1
    rw [show (BitVec.setWidth 32 1#1).toInt = 1 by decide]; simp
  · have hne : BitVec.ofNat 32 j.val ≠ BitVec.ofNat 32 e.val := fun hw => h <| Fin.ext <| by
      have := congrArg BitVec.toNat hw
      simp only [BitVec.toNat_ofNat] at this
      have hj := j.isLt; have he := e.isLt
      rw [Nat.mod_eq_of_lt (by omega), Nat.mod_eq_of_lt (by omega)] at this
      exact this
    rw [if_neg h, show IntOp.cmpi CmpIPredicate.eq (BitVec.ofNat 32 j.val) (BitVec.ofNat 32 e.val) = 0#1 by
      rw [IntOp.cmpi, beq_eq_false_iff_ne.mpr hne]; rfl]
    show (((BitVec.setWidth 32 0#1).toInt : ℝ) : EReal) = 0
    rw [show (BitVec.setWidth 32 0#1).toInt = 0 by decide]; simp

/-- The indicator picks its expert's gate. -/
theorem sum_gate {n : ℕ} (hn : n < 2 ^ 32) (g : Fin n → EReal) (e : Fin n) :
    ∑ j, g j * (FloatOps.sitofp (F := Ideal) .f32 (BitVec.setWidth 32 (IntOp.cmpi CmpIPredicate.eq (BitVec.ofNat 32 j.val)
      (BitVec.ofNat 32 e.val))) : EReal) = g e := by
  simp only [indicator hn]
  exact Math.sum_indicator g e _ (if_pos rfl) fun j hj => if_neg hj

theorem term0_apply (i : grid0.Coords) (e : Fin 32) (he : (i 0).val = e.val) (x : FVec Ideal S2048x768 .f32)
    (g : FVec Ideal S2048x32 .f32) (w1 : FVec Ideal S1x768x768 .f32) (b1 : FVec Ideal S1x1x768 .f32)
    (w2 : FVec Ideal S1x768x768 .f32) (t : Fin 2048) (d : Fin 768) :
    k0_pay39 (F := Ideal) i x g w1 b1 w2 (ix2 t d)
      = Math.share (g (ix2 t e)) (Math.lin (fun k => x (ix2 t k)) (fun k j => w1 (ix3 0 k j)) fun j => b1 (ix3 0 0 j))
          fun k => w2 (ix3 0 k d) := by
  pointwise [k0_pay39]
  rw [he, named_c2]
  simp only [sum_gate (by decide) (fun j => g (ix2 t j)) e]
  rfl

theorem term1_apply (i : grid1.Coords) (e : Fin 4) (he : (i 0).val = e.val) (x : FVec Ideal S2048x768 .f32)
    (g : FVec Ideal S2048x4 .f32) (w1 : FVec Ideal S1x768x768 .f32) (b1 : FVec Ideal S1x1x768 .f32)
    (w2 : FVec Ideal S1x768x768 .f32) (t : Fin 2048) (d : Fin 768) :
    k1_pay5 (F := Ideal) i x g w1 b1 w2 (ix2 t d)
      = Math.share (g (ix2 t e)) (Math.lin (fun k => x (ix2 t k)) (fun k j => w1 (ix3 0 k j)) fun j => b1 (ix3 0 0 j))
          fun k => w2 (ix3 0 k d) := by
  pointwise [k1_pay5]
  rw [he, named_c2]
  simp only [sum_gate (by decide) (fun j => g (ix2 t j)) e]
  rfl

end Cert.KernelIdeal.Value

end
-- ==== Proof.Value.Blocks.lean ====
module

public import proofs.«01_k».proof.Proof.KernelIdeal.Segs
public import Idealize.ShloMosaic.Lib.Pipeline.ValueKit
public import Idealize.ShloMosaic.Lib.Pipeline.ValueKit.Point
public import Idealize.ShloMosaic.Lib.Pointwise

@[expose] public section

set_option maxRecDepth 16384

/-! What the windows of the two kernels fetch, entry by entry, and what the arrays hold when each kernel starts. -/

noncomputable section

namespace Cert.KernelIdeal.Value

open Idealize.ShloMosaic Cert.KernelIdeal Cert.KernelIdeal.Gen Idealize.ShloMosaic.TcCoe

variable (V : Dev nD → Valuation τ sig (Elt Ideal)) (c : Dev nD)

/-! ## The windows of the first kernel -/

/-- The routed expert whose weights a grid point of the first kernel fetches. -/
def expert0 (t : Fin cfg0.N) : Fin 32 := ⟨t.val, by rw [← N_0]; exact t.isLt⟩

theorem coords0 (t : Fin cfg0.N) : (grid0.coords t 0).val = t.val := by revert t; decide +kernel

theorem index0 : ∀ t : Fin cfg0.N, win0_0.index t = ![0, 0] ∧ win0_1.index t = ![0, 0] ∧ win0_2.index t = ![0, 0] ∧
    win0_3.index t = ![t.val, 0, 0] ∧ win0_4.index t = ![t.val, 0, 0] ∧ win0_5.index t = ![t.val, 0, 0] := by
  decide +kernel

theorem blk0_x (t : Fin cfg0.N) : blk0 V c 0 t = V c main_arg0 := by funext i; blk_ext [blk0, index0 t]
theorem blk0_gw (t : Fin cfg0.N) : blk0 V c 1 t = V c main_arg1 := by funext i; blk_ext [blk0, index0 t]
theorem blk0_gb (t : Fin cfg0.N) : blk0 V c 2 t = V c main_call0_v0 := by funext i; blk_ext [blk0, index0 t]
theorem blk0_w1 (t : Fin cfg0.N) (k j : Fin 768) :
    blk0 V c 3 t (ix3 0 k j) = V c main_arg3 (ix3 (expert0 t) k j) := by blk_ext [blk0, index0 t, expert0]
theorem blk0_b1 (t : Fin cfg0.N) (j : Fin 768) :
    blk0 V c 4 t (ix3 0 0 j) = V c main_call0_v1 (ix3 (expert0 t) 0 j) := by blk_ext [blk0, index0 t, expert0]
theorem blk0_w2 (t : Fin cfg0.N) (k j : Fin 768) :
    blk0 V c 5 t (ix3 0 k j) = V c main_arg5 (ix3 (expert0 t) k j) := by blk_ext [blk0, index0 t, expert0]

/-! ## The windows of the second kernel -/

/-- The shared expert whose weights a grid point of the second kernel fetches. -/
def expert1 (t : Fin cfg1.N) : Fin 4 := ⟨t.val, by rw [← N_1]; exact t.isLt⟩

theorem coords1 (t : Fin cfg1.N) : (grid1.coords t 0).val = t.val := by revert t; decide +kernel

theorem index1 : ∀ t : Fin cfg1.N, win1_0.index t = ![0, 0] ∧ win1_1.index t = ![0, 0] ∧ win1_2.index t = ![0, 0] ∧
    win1_3.index t = ![0, 0] ∧ win1_4.index t = ![t.val, 0, 0] ∧ win1_5.index t = ![t.val, 0, 0] ∧
    win1_6.index t = ![t.val, 0, 0] ∧ win1_7.index t = ![0, 0] ∧ win1_8.index t = ![0, 0] ∧
    win1_9.index t = ![0, 0] := by
  decide +kernel

theorem blk1_prev (t : Fin cfg1.N) : blk1 V c 0 t = V c main_call0_v2_0 := by funext i; blk_ext [blk1, index1 t]
theorem blk1_x (t : Fin cfg1.N) : blk1 V c 1 t = V c main_arg0 := by funext i; blk_ext [blk1, index1 t]
theorem blk1_gw (t : Fin cfg1.N) : blk1 V c 2 t = V c main_arg7 := by funext i; blk_ext [blk1, index1 t]
theorem blk1_gb (t : Fin cfg1.N) : blk1 V c 3 t = V c main_call0_v3 := by funext i; blk_ext [blk1, index1 t]
theorem blk1_w1 (t : Fin cfg1.N) (k j : Fin 768) :
    blk1 V c 4 t (ix3 0 k j) = V c main_arg9 (ix3 (expert1 t) k j) := by blk_ext [blk1, index1 t, expert1]
theorem blk1_b1 (t : Fin cfg1.N) (j : Fin 768) :
    blk1 V c 5 t (ix3 0 0 j) = V c main_call0_v4 (ix3 (expert1 t) 0 j) := by blk_ext [blk1, index1 t, expert1]
theorem blk1_w2 (t : Fin cfg1.N) (k j : Fin 768) :
    blk1 V c 6 t (ix3 0 k j) = V c main_arg11 (ix3 (expert1 t) k j) := by blk_ext [blk1, index1 t, expert1]
theorem blk1_gates (t : Fin cfg1.N) : blk1 V c 7 t = V c main_call0_v2_1 := by funext i; blk_ext [blk1, index1 t]
theorem blk1_b2 (t : Fin cfg1.N) : blk1 V c 8 t = V c main_arg6 := by funext i; blk_ext [blk1, index1 t]
theorem blk1_b2s (t : Fin cfg1.N) : blk1 V c 9 t = V c main_arg12 := by funext i; blk_ext [blk1, index1 t]

/-! ## The arrays when each kernel starts -/

variable (m : (ℓ : Loc nD τ sig) → Buf (Elt Ideal) ℓ)

theorem V1_gb (e : Fin 32) : V1 m c main_call0_v0 (ix2 0 e) = m ((c, main_arg2)) (ix1 e) := by
  show StableHlo.after hostOps0 (V0 m c) (Proc.devRef .tc main_call0_v0) _ = _
  entry_read
  pointwise
theorem V1_b1 (e : Fin 32) (j : Fin 768) :
    V1 m c main_call0_v1 (ix3 e 0 j) = m ((c, main_arg4)) (ix2 e j) := by
  show StableHlo.after hostOps0 (V0 m c) (Proc.devRef .tc main_call0_v1) _ = _
  entry_read
  pointwise

/-- A buffer no host line and no kernel has yet written holds what it held at launch. -/
theorem W2_launch (r : Ref sig .tc) (h0 : r ∉ hostOps0_W)
    (h1 : r ∉ ([main_call0_v2_0, main_call0_v2_1, main_call0_v2_2] : List (Ref sig .tc))) :
    W2 m c r = m ((c, Proc.devRef .tc r)) := (W2_of m c r h1).trans (V1_of m c r h0)
theorem W3_launch (r : Ref sig .tc) (h0 : r ∉ hostOps0_W)
    (h1 : r ∉ ([main_call0_v2_0, main_call0_v2_1, main_call0_v2_2] : List (Ref sig .tc))) (h2 : r ∉ hostOps1_W) :
    W3 m c r = m ((c, Proc.devRef .tc r)) := (W3_of m c r h2).trans (W2_launch c m r h0 h1)

theorem W3_gb (e : Fin 4) : W3 m c main_call0_v3 (ix2 0 e) = m ((c, main_arg8)) (ix1 e) := by
  show StableHlo.after hostOps1 (W2 m c) (Proc.devRef .tc main_call0_v3) _ = _
  entry_read
  rw [show W2 m c (Proc.devRef .tc main_arg8) = _ from W2_launch c m main_arg8 (by decide) (by decide)]
  pointwise
theorem W3_b1 (e : Fin 4) (j : Fin 768) :
    W3 m c main_call0_v4 (ix3 e 0 j) = m ((c, main_arg10)) (ix2 e j) := by
  show StableHlo.after hostOps1 (W2 m c) (Proc.devRef .tc main_call0_v4) _ = _
  entry_read
  rw [show W2 m c (Proc.devRef .tc main_arg10) = _ from W2_launch c m main_arg10 (by decide) (by decide)]
  pointwise
theorem W3_prev : W3 m c main_call0_v2_0 = acc0 (V1 m) c 31 :=
  (W3_of m c main_call0_v2_0 (by decide)).trans (W2_out m c)
theorem W3_gates : W3 m c main_call0_v2_1 = gatesC0 (V1 m) c :=
  (W3_of m c main_call0_v2_1 (by decide)).trans (W2_gates m c)

/-! ## The results at the end -/

theorem W5_out : W5 m c main_v0_0 = acc1 (W3 m) c 3 :=
  (W5_of m c main_v0_0 (by decide)).trans (W4_out m c)
theorem W5_aux : W5 m c main_v0_1 ix0 = auxC0 (V1 m) c (ix2 0 0) := by
  show StableHlo.after hostOps2 (W4 m c) (Proc.devRef .tc main_v0_1) _ = _
  entry_read
  rw [show W4 m c (Proc.devRef .tc main_call0_v2_2) = _ from ((W4_of m c main_call0_v2_2 (by decide)).trans
    (W3_of m c main_call0_v2_2 (by decide))).trans (W2_aux m c)]
  pointwise
-- ==== Proof.Value.Output.lean ====
/- What the kernel's two results are, as functions of its arguments. -/
module

public import proofs.«01_k».proof.Proof.Value.Payloads
public import proofs.«01_k».proof.Proof.Value.Blocks

@[expose] public section

set_option maxRecDepth 16384

noncomputable section

namespace Cert.KernelIdeal.Value

open Idealize.ShloMosaic Cert.KernelIdeal Cert.KernelIdeal.Gen Idealize.ShloMosaic.TcCoe
open scoped BigOperators

variable (m : (ℓ : Loc nD τ sig) → Buf (Elt Ideal) ℓ) (c : Dev nD)

/-- The kernel's arguments on core `c`. -/
def args : Math.Args :=
  .of (m ((c, main_arg0))) (m ((c, main_arg1))) (m ((c, main_arg2))) (m ((c, main_arg3))) (m ((c, main_arg4)))
    (m ((c, main_arg5))) (m ((c, main_arg6))) (m ((c, main_arg7))) (m ((c, main_arg8))) (m ((c, main_arg9)))
    (m ((c, main_arg10))) (m ((c, main_arg11))) (m ((c, main_arg12)))

/-! ## The routers -/

theorem score0_first (t : Fin 2048) :
    score0 (blk0 (V1 m) c 0 first0) (blk0 (V1 m) c 1 first0) (blk0 (V1 m) c 2 first0) t
      = Math.lin ((args m c).x t) (args m c).gw (args m c).gb := by
  rw [blk0_x, blk0_gw, blk0_gb, V1_of m c main_arg0 (by decide), V1_of m c main_arg1 (by decide)]
  unfold score0 Math.lin
  funext e
  exact congrArg₂ (· + ·) rfl (V1_gb c m e)

theorem score1_first (t : Fin 2048) :
    score1 (blk1 (W3 m) c 1 first1) (blk1 (W3 m) c 2 first1) (blk1 (W3 m) c 3 first1) t
      = Math.lin ((args m c).x t) (args m c).gws (args m c).gbs := by
  rw [blk1_x, blk1_gw, blk1_gb, W3_launch c m main_arg0 (by decide) (by decide) (by decide),
    W3_launch c m main_arg7 (by decide) (by decide) (by decide)]
  unfold score1 Math.lin
  funext e
  exact congrArg₂ (· + ·) rfl (W3_gb c m e)

variable {m c}

theorem keepC0_apply (t : Fin 2048) (e : Fin 32) :
    keepC0 (V1 m) c (ix2 t e) = Math.gate ((args m c).prob t) e := by
  unfold keepC0
  rw [keep0_apply, score0_first]; rfl

theorem gatesC0_apply (t : Fin 2048) (e : Fin 32) :
    gatesC0 (V1 m) c (ix2 t e) = Math.gate ((args m c).prob t) e := by
  rw [← keepC0_apply]; exact gates0_apply _ _ _ t e

theorem keepC1_apply (t : Fin 2048) (e : Fin 4) : keepC1 (W3 m) c (ix2 t e) = (args m c).probS t e := by
  unfold keepC1
  rw [keep1_apply, score1_first]; rfl

/-- The kernel's second result is the loss. -/
theorem aux_eq : auxC0 (V1 m) c (ix2 0 0) = (args m c).aux := by
  unfold auxC0
  rw [aux0_apply]
  simp only [score0_first]
  rfl

/-! ## The terms of the output -/

variable (h : (args m c).Finite)
include h

theorem term0_eq (n : Fin cfg0.N) (t : Fin 2048) (d : Fin 768) :
    term0 (V1 m) c n (ix2 t d) = Math.gate ((args m c).prob t) (expert0 n)
      * Math.mlp ((args m c).pre t (expert0 n)) fun k => (args m c).w2 (expert0 n) k d := by
  have hx : (fun k => blk0 (V1 m) c 0 n (ix2 t k)) = (args m c).x t := by
    rw [blk0_x, V1_of m c main_arg0 (by decide)]; rfl
  have hw1 : (fun k j => blk0 (V1 m) c 3 n (ix3 0 k j)) = (args m c).w1 (expert0 n) := by
    funext k j; exact (blk0_w1 _ c n k j).trans (congrFun (V1_of m c main_arg3 (by decide)) _)
  have hb1 : (fun j => blk0 (V1 m) c 4 n (ix3 0 0 j)) = (args m c).b1 (expert0 n) := by
    funext j; exact (blk0_b1 _ c n j).trans (V1_b1 c m _ _)
  have hw2 : (fun k => blk0 (V1 m) c 5 n (ix3 0 k d)) = fun k => (args m c).w2 (expert0 n) k d := by
    funext k; exact (blk0_w2 _ c n k d).trans (congrFun (V1_of m c main_arg5 (by decide)) _)
  refine Eq.trans ?_ (Math.share_eq (Math.Args.gate_real t _) (h.pre t _) _)
  refine (term0_apply _ (expert0 n) (coords0 n) _ _ _ _ _ t d).trans ?_
  exact congr (congr (congrArg Math.share (keepC0_apply t _)) (congr (congr (congrArg Math.lin hx) hw1) hb1)) hw2

theorem term1_eq (n : Fin cfg1.N) (t : Fin 2048) (d : Fin 768) :
    term1 (W3 m) c n (ix2 t d) = (args m c).probS t (expert1 n)
      * Math.mlp ((args m c).preS t (expert1 n)) fun k => (args m c).w2s (expert1 n) k d := by
  have hx : (fun k => blk1 (W3 m) c 1 n (ix2 t k)) = (args m c).x t := by
    rw [blk1_x, W3_launch c m main_arg0 (by decide) (by decide) (by decide)]; rfl
  have hw1 : (fun k j => blk1 (W3 m) c 4 n (ix3 0 k j)) = (args m c).w1s (expert1 n) := by
    funext k j
    exact (blk1_w1 _ c n k j).trans (congrFun (W3_launch c m main_arg9 (by decide) (by decide) (by decide)) _)
  have hb1 : (fun j => blk1 (W3 m) c 5 n (ix3 0 0 j)) = (args m c).b1s (expert1 n) := by
    funext j; exact (blk1_b1 _ c n j).trans (W3_b1 c m _ _)
  have hw2 : (fun k => blk1 (W3 m) c 6 n (ix3 0 k d)) = fun k => (args m c).w2s (expert1 n) k d := by
    funext k
    exact (blk1_w2 _ c n k d).trans (congrFun (W3_launch c m main_arg11 (by decide) (by decide) (by decide)) _)
  refine Eq.trans ?_ (Math.share_eq (h.probS t _) (h.preS t _) _)
  refine (term1_apply _ (expert1 n) (coords1 n) _ _ _ _ _ t d).trans ?_
  exact congr (congr (congrArg Math.share (keepC1_apply t _)) (congr (congr (congrArg Math.lin hx) hw1) hb1)) hw2

/-! ## The accumulated output -/

omit h in
theorem pay0_apply (v a : FVec Ideal S2048x768 .f32) (t : Fin 2048) (d : Fin 768) :
    k0_pay1 (F := Ideal) v a (ix2 t d) = a (ix2 t d) + v (ix2 t d) := by pointwise [k0_pay1]
omit h in
theorem pay1_apply (v a : FVec Ideal S2048x768 .f32) (t : Fin 2048) (d : Fin 768) :
    k1_pay1 (F := Ideal) v a (ix2 t d) = a (ix2 t d) + v (ix2 t d) := by pointwise [k1_pay1]
omit h in
theorem pay2_apply (v a : FVec Ideal S2048x768 .f32) (t : Fin 2048) (d : Fin 768) :
    k1_pay2 (F := Ideal) v a (ix2 t d) = a (ix2 t d) + v (ix2 t d) := by pointwise [k1_pay2]
omit h in
/-- The last point adds to the sum the gated biases of the two groups of experts. -/
theorem pay3_apply (v : FVec Ideal S2048x768 .f32) (g : FVec Ideal S2048x32 .f32) (b : FVec Ideal S32x768 .f32)
    (p : FVec Ideal S2048x4 .f32) (u : FVec Ideal S4x768 .f32) (t : Fin 2048) (d : Fin 768) :
    k1_pay3 (F := Ideal) v g b p u (ix2 t d)
      = v (ix2 t d) + (∑ e, g (ix2 t e) * b (ix2 e d) + ∑ e, p (ix2 t e) * u (ix2 e d)) := by pointwise [k1_pay3]

omit h in
/-- A quantity that starts at the first term and gains the next term at each step is the sum of the terms. -/
theorem sum_steps {N : ℕ} (hN : 0 < N) (f : Fin N → EReal) (s : ℕ → EReal) (s0 : EReal) (h0 : s 0 = s0 + f ⟨0, hN⟩)
    (hs : ∀ n (hn : n + 1 < N), s (n + 1) = s n + f ⟨n + 1, hn⟩) : s (N - 1) = s0 + ∑ n, f n := by
  obtain ⟨M, rfl⟩ : ∃ M, N = M + 1 := ⟨N - 1, by omega⟩
  have key : ∀ n (hn : n < M + 1), s n = s0 + ∑ j : Fin (n + 1), f ⟨j.val, by omega⟩ := by
    intro n
    induction n with
    | zero => intro _; simpa using h0
    | succ n ih =>
      intro hn
      rw [hs n hn, ih (by omega), add_assoc]
      exact congrArg (s0 + ·) (Fin.sum_univ_castSucc fun j : Fin (n + 1 + 1) => f ⟨j.val, by omega⟩).symm
  exact key M (by omega)

theorem acc0_eq (t : Fin 2048) (d : Fin 768) :
    acc0 (V1 m) c 31 (ix2 t d) = ∑ e, Math.gate ((args m c).prob t) e
      * Math.mlp ((args m c).pre t e) fun k => (args m c).w2 e k d := by
  have key := sum_steps (N := 32) (by decide) (fun e => Math.gate ((args m c).prob t) e
      * Math.mlp ((args m c).pre t e) fun k => (args m c).w2 e k d) (fun n => acc0 (V1 m) c n (ix2 t d)) 0
    (by rw [zero_add]; exact term0_eq h first0 t d)
    (fun n hn => by
      have hN : n + 1 < cfg0.N := lt_of_lt_of_eq hn N_0.symm
      have hstep : acc0 (V1 m) c (n + 1) = k0_pay1 (term0 (V1 m) c ⟨n + 1, hN⟩) (acc0 (V1 m) c n) := dif_pos hN
      show acc0 (V1 m) c (n + 1) (ix2 t d) = _
      rw [hstep, pay0_apply, term0_eq h]; rfl)
  rw [zero_add] at key
  exact key

theorem sum1_eq (t : Fin 2048) (d : Fin 768) :
    sum1 (W3 m) c 3 (ix2 t d) = (∑ e, Math.gate ((args m c).prob t) e
        * Math.mlp ((args m c).pre t e) fun k => (args m c).w2 e k d)
      + ∑ e, (args m c).probS t e * Math.mlp ((args m c).preS t e) fun k => (args m c).w2s e k d := by
  refine sum_steps (N := 4) (by decide) (fun e => (args m c).probS t e
      * Math.mlp ((args m c).preS t e) fun k => (args m c).w2s e k d) (fun n => sum1 (W3 m) c n (ix2 t d)) _ ?_ ?_
  · show k1_pay1 (term1 (W3 m) c first1) (blk1 (W3 m) c 0 first1) (ix2 t d) = _
    rw [pay1_apply, blk1_prev, W3_prev, acc0_eq h, term1_eq h]; rfl
  · intro n hn
    have hN : n + 1 < cfg1.N := lt_of_lt_of_eq hn N_1.symm
    have hstep : sum1 (W3 m) c (n + 1) = k1_pay2 (term1 (W3 m) c ⟨n + 1, hN⟩) (sum1 (W3 m) c n) := dif_pos hN
    show sum1 (W3 m) c (n + 1) (ix2 t d) = _
    rw [hstep, pay2_apply, term1_eq h]; rfl

/-- The kernel's first result is the mixture of the experts' outputs. -/
theorem out_eq (t : Fin 2048) (d : Fin 768) : acc1 (W3 m) c 3 (ix2 t d) = (args m c).out t d := by
  unfold acc1
  rw [dif_pos rfl, blk1_gates, blk1_b2, blk1_b2s, W3_gates,
    W3_launch c m main_arg6 (by decide) (by decide) (by decide),
    W3_launch c m main_arg12 (by decide) (by decide) (by decide)]
  refine (pay3_apply _ _ _ _ _ t d).trans ?_
  simp only [gatesC0_apply, keepC1_apply, sum1_eq h]
  exact Math.sum_outputs (Math.Args.gate_real t) (h.probS t) _ _ _ _

end Cert.KernelIdeal.Value

end
-- ==== Proof.Claims.Finite.lean ====
/- What the precondition says: the arguments it names hold numbers. -/
module

public import proofs.«01_k».proof.Defs
public import proofs.«01_k».proof.Proof.Value.Output

@[expose] public section

set_option maxRecDepth 16384

namespace Cert.Proof

open Idealize.ShloMosaic Cert.KernelIdeal Idealize.ShloMosaic.TcCoe

/-- The relations between shapes that the precondition's operations take. -/
theorem finite_facts : Cert.Pre_finite.Facts := by
  constructor <;> decide

theorem ofBits_inf : Ideal.ofBits .f32 0x7F800000#32 = ⊤ := by
  simp [Ideal.ofBits, Ideal.ieee]

/-- An entry whose absolute value is below infinity is a number. -/
theorem real_of_mask (x : EReal)
    (h : FloatOps.cmpf (F := Ideal) (φ := .f32) .olt (FloatOps.absf (F := Ideal) (φ := .f32) x)
      (FloatOps.ofBits (F := Ideal) .f32 0x7F800000#32) = 1#1) : ∃ r : ℝ, x = r := by
  rw [show (FloatOps.ofBits (F := Ideal) .f32 0x7F800000#32 : EReal) = ⊤ from ofBits_inf] at h
  induction x using EReal.rec with
  | coe r => exact ⟨r, rfl⟩
  | bot => simp [FloatOps.cmpf, Ideal.cmp, FloatOps.absf] at h
  | top => simp [FloatOps.cmpf, Ideal.cmp, FloatOps.absf] at h

theorem finite_args [Cert.Pre_finite.Facts] (m : (ℓ : Loc nD τ sig) → Buf (Elt Ideal) ℓ)
    (h : Cert.Pre_KernelIdeal_finite m) (c : Dev nD) : (Value.args m c).Finite := by
  obtain ⟨h0, h3, h4, h7, h8, h9, h10⟩ := h c
  exact {
    x := fun t k => real_of_mask _ (congrFun h0 (ix2 t k))
    w1 := fun e k j => real_of_mask _ (congrFun h3 (ix3 e k j))
    b1 := fun e j => real_of_mask _ (congrFun h4 (ix2 e j))
    gws := fun k e => real_of_mask _ (congrFun h7 (ix2 k e))
    gbs := fun e => real_of_mask _ (congrFun h8 (ix1 e))
    w1s := fun e k j => real_of_mask _ (congrFun h9 (ix3 e k j))
    b1s := fun e j => real_of_mask _ (congrFun h10 (ix2 e j)) }

end Cert.Proof

end
-- ==== Proof.Value.RefExperts.lean ====
/- The reference's two routers and its experts, at an index. -/
module

public import proofs.«01_k».proof.Proof.Gen.ReferenceIdeal.Read
public import proofs.«01_k».proof.Proof.Math.Spec

@[expose] public section

noncomputable section

namespace Cert.ReferenceIdeal.Value

open Idealize.ShloMosaic Cert.ReferenceIdeal Cert.ReferenceIdeal.Gen Cert.ReferenceIdeal.Read
open scoped BigOperators

/-- The routed router's probabilities. -/
theorem prob_apply (x0 : FVec Ideal S2048x768 .f32) (x1 : FVec Ideal S768x32 .f32) (x2 : FVec Ideal S32 .f32)
    (t : Fin 2048) (e : Fin 32) : val_main_v14 (F := Ideal) x0 x1 x2 (ix2 t e)
      = Math.soft (Math.lin (fun k => x0 (ix2 t k)) (fun k e => x1 (ix2 k e)) fun e => x2 (ix1 e)) e := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  simp only [Math.ofBits_neg_inf, max_bot_left]
  rfl

/-- The shared router's probabilities. -/
theorem probS_apply (x0 : FVec Ideal S2048x768 .f32) (x7 : FVec Ideal S768x4 .f32) (x8 : FVec Ideal S4 .f32)
    (t : Fin 2048) (e : Fin 4) : val_main_v85 (F := Ideal) x0 x7 x8 (ix2 t e)
      = Math.soft (Math.lin (fun k => x0 (ix2 t k)) (fun k e => x7 (ix2 k e)) fun e => x8 (ix1 e)) e := by
  pointwise [val_main_v85, val_main_v84, val_main_v83, val_main_v82, val_main_v81, val_main_v80, val_main_v79,
    val_main_v78, val_main_v77, val_main_v76, val_main_v75, val_main_v74, val_main_v73, val_main_v72, val_main_v71,
    val_main_cst_18, val_main_cst_19, val_main_cst_20]
  simp only [Math.ofBits_neg_inf, max_bot_left]
  rfl

/-- A routed expert's output. -/
theorem expert_apply (x0 : FVec Ideal S2048x768 .f32) (x3 : FVec Ideal S32x768x768 .f32) (x4 : FVec Ideal S32x768 .f32)
    (x5 : FVec Ideal S32x768x768 .f32) (x6 : FVec Ideal S32x768 .f32) (t : Fin 2048) (e : Fin 32) (d : Fin 768) :
    val_main_v58 (F := Ideal) x0 x3 x4 x5 x6 (ix3 t e d)
      = Math.mlp (Math.lin (fun k => x0 (ix2 t k)) (fun k j => x3 (ix3 e k j)) fun j => x4 (ix2 e j))
          (fun k => x5 (ix3 e k d)) + x6 (ix2 e d) := by
  pointwise [val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37,
    val_main_cst_7, val_main_cst_8, val_main_cst_9, val_main_cst_10]
  rfl

/-- A shared expert's output. -/
theorem expertS_apply (x0 : FVec Ideal S2048x768 .f32) (x9 : FVec Ideal S4x768x768 .f32) (x10 : FVec Ideal S4x768 .f32)
    (x11 : FVec Ideal S4x768x768 .f32) (x12 : FVec Ideal S4x768 .f32) (t : Fin 2048) (e : Fin 4) (d : Fin 768) :
    val_main_v107 (F := Ideal) x0 x9 x10 x11 x12 (ix3 t e d)
      = Math.mlp (Math.lin (fun k => x0 (ix2 t k)) (fun k j => x9 (ix3 e k j)) fun j => x10 (ix2 e j))
          (fun k => x11 (ix3 e k d)) + x12 (ix2 e d) := by
  pointwise [val_main_v107, val_main_v106, val_main_v105, val_main_v104, val_main_v103, val_main_v102,
    val_main_v101, val_main_v100, val_main_v99, val_main_v98, val_main_v97, val_main_v96, val_main_v95,
    val_main_v94, val_main_v93, val_main_v92, val_main_v91, val_main_v90, val_main_v89, val_main_v88, val_main_v87,
    val_main_v86, val_main_cst_21, val_main_cst_22, val_main_cst_23, val_main_cst_24]
  rfl

end Cert.ReferenceIdeal.Value

end
-- ==== Proof.Value.RefGates.lean ====
/- The gates of the reference: the sixteen largest probabilities of a token, each divided by their sum and written at
   its expert's place. -/
module

public import proofs.«01_k».proof.Proof.Value.RefExperts
public import proofs.«01_k».proof.Proof.Math.Rank
public import Idealize.ShloMosaic.Lib.Routing.OpsSet
public import Idealize.ShloMosaic.Lib.Routing.OpsPair

@[expose] public section

noncomputable section

namespace Cert.ReferenceIdeal.Value

open Idealize.ShloMosaic Cert.ReferenceIdeal Cert.ReferenceIdeal.Gen Cert.ReferenceIdeal.Read
open scoped BigOperators

variable (x0 : FVec Ideal S2048x768 .f32) (x1 : FVec Ideal S768x32 .f32) (x2 : FVec Ideal S32 .f32)

/-- The probabilities of token `t`. -/
def probs (t : Fin 2048) (e : Fin 32) : EReal := val_main_v14 (F := Ideal) x0 x1 x2 (ix2 t e)

/-- Whether the reference's sort puts position `a` strictly before position `b`. -/
def before (p : Fin 32 → EReal) (a b : Fin 32) : Bool := FloatOps.cmpfTotal (F := Ideal) (φ := .f32) .gt (p a) (p b) == 1#1

/-- The expert at place `k` of the sorted row. -/
def place (t : Fin 2048) (k : Fin 16) : Fin 32 := sortedFrom (before (probs x0 x1 x2 t)) (k.castLE (by decide))

theorem before_iff (p : Fin 32 → EReal) (a b : Fin 32) : before p a b = true ↔ p b < p a := by
  unfold before
  by_cases h : p b < p a <;> simp [h, FloatOps.cmpfTotal, Ideal.cmpTotal, Ideal.cmp, CmpDirection.ordered]

theorem rank_place (t : Fin 2048) (k : Fin 16) : Math.rank (probs x0 x1 x2 t) (place x0 x1 x2 t k) = k.val :=
  Math.rank_sortedFrom _ _ (before_iff _) _

/-- The position of the sorted row that place `k` of the sixteen kept is. -/
theorem kept_at (t : Fin 2048) (k : Fin 16) (h : (2 : ℕ) = 2) (h' : ∀ a : Fin 2, 0 + (ix2 t k (Fin.cast h a)).val < S2048x32.size a) :
    (fun a : Fin 2 => (⟨0 + (ix2 t k (Fin.cast h a)).val, h' a⟩ : Fin (S2048x32.size a)))
      = ix2 t (k.castLE (by decide) : Fin 32) := by
  funext a
  apply Fin.ext
  fin_cases a <;> exact Nat.zero_add _

/-- The axis of the experts. -/
abbrev axis : Fin S2048x32.rank := ⟨1, Nat.one_lt_two⟩

theorem along_row (t : Fin 2048) (e e' : Fin 32) : (ix2 t e : S2048x32.Idx).along axis e' = ix2 t e' := by
  funext a
  fin_cases a <;> rfl

/-- The comparison of two pairs by their first components. -/
def first {β : Type} (l r : EReal × β) : BitVec 1 := FloatOps.cmpfTotal (F := Ideal) (φ := .f32) .gt l.1 r.1

/-- A row of pairs sorted by the first component, at a place. -/
theorem sort_apply {β : Type} (x : S2048x32.Idx → EReal) (y : S2048x32.Idx → β) (t : Fin 2048) (e : Fin 32) :
    (Host.sort2 S2048x32 1 first x y).1 (ix2 t e) = x (ix2 t (sortedFrom (before fun j => x (ix2 t j)) e))
      ∧ (Host.sort2 S2048x32 1 first x y).2 (ix2 t e) = y (ix2 t (sortedFrom (before fun j => x (ix2 t j)) e)) := by
  have hB : (fun a b : Fin 32 => first (x ((ix2 t e : S2048x32.Idx).along axis a), y ((ix2 t e : S2048x32.Idx).along axis a))
      (x ((ix2 t e : S2048x32.Idx).along axis b), y ((ix2 t e : S2048x32.Idx).along axis b)) == 1#1)
        = before fun j => x (ix2 t j) := by
    funext a b
    rw [along_row, along_row]; rfl
  have key : (ix2 t e : S2048x32.Idx).along axis (sortedFrom (n := 32) (fun a b => first
      (x ((ix2 t e : S2048x32.Idx).along axis a), y ((ix2 t e : S2048x32.Idx).along axis a))
      (x ((ix2 t e : S2048x32.Idx).along axis b), y ((ix2 t e : S2048x32.Idx).along axis b)) == 1#1) e)
        = ix2 t (sortedFrom (before fun j => x (ix2 t j)) e) := by
    rw [hB]; exact along_row t e _
  unfold Host.sort2
  rw [dif_pos Nat.one_lt_two]
  exact ⟨congrArg x key, congrArg y key⟩

/-- The sixteen largest of a row, at a place: the value and the position it came from. -/
theorem topK_apply (x : S2048x32.Idx → EReal) (h : S2048x32.Slices (fun _ => 0) S2048x16) (t : Fin 2048) (k : Fin 16) :
    (Host.topK S2048x16 1 (FloatOps.cmpfTotal (F := Ideal) (φ := .f32) .gt) x h).1 (ix2 t k)
        = x (ix2 t (sortedFrom (before fun j => x (ix2 t j)) (k.castLE (by decide))))
      ∧ (Host.topK S2048x16 1 (FloatOps.cmpfTotal (F := Ideal) (φ := .f32) .gt) x h).2 (ix2 t k)
        = BitVec.ofNat 32 (sortedFrom (before fun j => x (ix2 t j)) (k.castLE (by decide : 16 ≤ 32))).val := by
  have key := sort_apply x (fun i => if hd : 1 < S2048x32.rank then iotaInDim S2048x32 32 ⟨1, hd⟩ i else 0#32) t
    (k.castLE (by decide))
  rw [← kept_at t k rfl (fun a => by fin_cases a <;> exact Nat.lt_of_lt_of_le (Nat.add_lt_add_left (Fin.isLt _) 0) (by decide))]
    at key
  refine ⟨key.1, key.2.trans ?_⟩
  rw [dif_pos (by decide)]
  rfl

/-- The kept values: the probabilities at the first sixteen places. -/
theorem values_apply (t : Fin 2048) (k : Fin 16) :
    val_main_values (F := Ideal) x0 x1 x2 (ix2 t k) = probs x0 x1 x2 t (place x0 x1 x2 t k) :=
  (topK_apply (val_main_v14 (F := Ideal) x0 x1 x2) _ t k).1

/-- The kept indices: the experts at the first sixteen places. -/
theorem indices_apply (t : Fin 2048) (k : Fin 16) :
    val_main_indices (F := Ideal) x0 x1 x2 (ix2 t k) = BitVec.ofNat 32 (place x0 x1 x2 t k).val :=
  (topK_apply (val_main_v14 (F := Ideal) x0 x1 x2) _ t k).2

/-- The place written by update `(t, k)`: row `t`, and the expert at place `k`. -/
theorem row_apply (t : Fin 2048) (k : Fin 16) :
    val_main_v35 (F := Ideal) x0 x1 x2 (ix3 t k 0) = BitVec.ofNat 32 t.val := by
  pointwise [val_main_v35, val_main_v33, val_main_v32, val_main_v26, val_main_v25, val_main_v24, val_main_v23,
    val_main_v22, val_main_v20, val_main_v19, val_main_c, val_main_c_4]
  exact Routing.wrap_of_lt _ _ (by have := t.isLt; simp; omega)
theorem col_apply (t : Fin 2048) (k : Fin 16) :
    val_main_v35 (F := Ideal) x0 x1 x2 (ix3 t k 1) = BitVec.ofNat 32 (place x0 x1 x2 t k).val := by
  pointwise [val_main_v35, val_main_v34, val_main_v31, val_main_v30, val_main_v29, val_main_v28, val_main_v27,
    val_main_c_5, val_main_c_6]
  rw [indices_apply]
  exact Routing.wrap_of_lt _ _ (by have := (place x0 x1 x2 t k).isLt; simp; omega)

theorem lands (t : Fin 2048) (k : Fin 16) (r : Fin 2048) (e : Fin 32) :
    scatter_S2048x32_S2048x16x2_S2048x16_n_01_01_2.resultIdx? (ix2 t k) (val_main_v35 (F := Ideal) x0 x1 x2)
        = some (ix2 r e) ↔ t = r ∧ place x0 x1 x2 t k = e := by
  refine (Routing.scatter_lands2 scatter_S2048x32_S2048x16x2_S2048x16_n_01_01_2 rfl rfl rfl
    (val_main_v35 (F := Ideal) x0 x1 x2) t k r e).trans ?_
  refine (and_congr (iff_of_eq (congrArg (fun w : BitVec 32 => w.toInt = (r.val : ℤ)) (row_apply x0 x1 x2 t k)))
    (iff_of_eq (congrArg (fun w : BitVec 32 => w.toInt = (e.val : ℤ)) (col_apply x0 x1 x2 t k)))).trans ?_
  rw [StableHlo.Predicate.toInt_ofNat_small _ (by have := t.isLt; omega),
    StableHlo.Predicate.toInt_ofNat_small _ (by have := (place x0 x1 x2 t k).isLt; omega)]
  simp only [Fin.ext_iff]
  omega

/-- A kept value over the sum of the kept values. -/
theorem quotient_apply (t : Fin 2048) (k : Fin 16) : val_main_v18 (F := Ideal) x0 x1 x2 (ix2 t k)
    = Math.gate (probs x0 x1 x2 t) (place x0 x1 x2 t k) := by
  pointwise [val_main_v18, val_main_v17, val_main_v16, val_main_v15, val_main_cst_2]
  simp only [values_apply]
  unfold Math.gate Math.kept
  rw [if_pos (by rw [rank_place]; exact k.isLt),
    Math.sum_places (probs x0 x1 x2 t) (place x0 x1 x2 t) (rank_place x0 x1 x2 t) (by decide)]

/-- The gates of the reference. -/
theorem gate_apply (t : Fin 2048) (hp : Math.Weights (probs x0 x1 x2 t)) (e : Fin 32) :
    val_main_v36 (F := Ideal) x0 x1 x2 (ix2 t e) = Math.gate (probs x0 x1 x2 t) e := by
  unfold val_main_v36
  by_cases h : Math.rank (probs x0 x1 x2 t) e < 16
  · have hk : place x0 x1 x2 t ⟨_, h⟩ = e := Math.rank_injective _ (rank_place x0 x1 x2 t ⟨_, h⟩)
    refine Routing.scatter_set_hit _ _ _ _ _ _ (fun k hit => ?_) (ix2 t ⟨_, h⟩) ((lands x0 x1 x2 _ _ _ _).mpr ⟨rfl, hk⟩)
    obtain ⟨a, b, rfl⟩ : ∃ a b, k = ix2 a b := ⟨k 0, k 1, by funext i; fin_cases i <;> rfl⟩
    obtain ⟨rfl, hb⟩ := (lands x0 x1 x2 _ _ _ _).mp hit
    rw [quotient_apply, hb]
  · rw [Routing.scatter_set_miss, Math.gate_zero hp e h]
    · pointwise [val_main_v21, val_main_cst_3]
    · intro k hit
      obtain ⟨a, b, rfl⟩ : ∃ a b, k = ix2 a b := ⟨k 0, k 1, by funext i; fin_cases i <;> rfl⟩
      obtain ⟨rfl, hb⟩ := (lands x0 x1 x2 _ _ _ _).mp hit
      exact h (by rw [← hb, rank_place]; exact b.isLt)

end Cert.ReferenceIdeal.Value

end
-- ==== Proof.Value.RefResults.lean ====
/- What the reference's two results are, as functions of its arguments. -/
module

public import proofs.«01_k».proof.Proof.Value.RefGates

@[expose] public section

noncomputable section

namespace Cert.ReferenceIdeal.Value

open Idealize.ShloMosaic Cert.ReferenceIdeal Cert.ReferenceIdeal.Gen Cert.ReferenceIdeal.Read
open scoped BigOperators

variable (x0 : FVec Ideal S2048x768 .f32) (x1 : FVec Ideal S768x32 .f32) (x2 : FVec Ideal S32 .f32)
  (x3 : FVec Ideal S32x768x768 .f32) (x4 : FVec Ideal S32x768 .f32) (x5 : FVec Ideal S32x768x768 .f32)
  (x6 : FVec Ideal S32x768 .f32) (x7 : FVec Ideal S768x4 .f32) (x8 : FVec Ideal S4 .f32)
  (x9 : FVec Ideal S4x768x768 .f32) (x10 : FVec Ideal S4x768 .f32) (x11 : FVec Ideal S4x768x768 .f32)
  (x12 : FVec Ideal S4x768 .f32)

theorem probs_eq (t : Fin 2048) :
    probs x0 x1 x2 t = (Math.Args.of x0 x1 x2 x3 x4 x5 x6 x7 x8 x9 x10 x11 x12).prob t :=
  funext fun e => prob_apply x0 x1 x2 t e

/-- The reference's first result is the mixture of the experts' outputs. -/
theorem out_apply (t : Fin 2048) (d : Fin 768) :
    val_main_v109 (F := Ideal) x0 x1 x2 x3 x4 x5 x6 x7 x8 x9 x10 x11 x12 (ix2 t d)
      = (Math.Args.of x0 x1 x2 x3 x4 x5 x6 x7 x8 x9 x10 x11 x12).out t d := by
  have hp := probs_eq x0 x1 x2 x3 x4 x5 x6 x7 x8 x9 x10 x11 x12 t
  pointwise [val_main_v109, val_main_v108, val_main_v59]
  simp only [gate_apply x0 x1 x2 t (by rw [hp]; exact Math.Args.prob_weights t), expert_apply, probS_apply,
    expertS_apply, hp]
  rfl

/-- The indicator that the expert at a place is expert `e`, as a number. -/
theorem indicator (q e : Fin 32) :
    (FloatOps.uitofp (F := Ideal) .f32 (IntOp.cmpi .eq (BitVec.ofNat 32 q.val) (BitVec.ofNat 32 e.val)) : EReal)
      = if q = e then 1 else 0 := by
  have hq : (BitVec.ofNat 32 q.val = BitVec.ofNat 32 e.val) ↔ q = e := by
    rw [← BitVec.toNat_inj, Fin.ext_iff]; simp only [BitVec.toNat_ofNat]; omega
  by_cases h : q = e
  · subst h
    simp [IntOp.cmpi, FloatOps.uitofp]
  · simp [IntOp.cmpi, FloatOps.uitofp, h, hq]

/-- The reference's second result is the loss. -/
theorem aux_apply : val_main_v110 (F := Ideal) x0 x1 x2 ix0
    = (Math.Args.of x0 x1 x2 x3 x4 x5 x6 x7 x8 x9 x10 x11 x12).aux := by
  pointwise [val_main_v110, val_main_v70, val_main_v69, val_main_v68, val_main_v67, val_main_v66, val_main_v65,
    val_main_v64, val_main_v63, val_main_v62, val_main_v61, val_main_v60, val_main_call0_v4, val_main_call0_v3,
    val_main_call0_v2, val_main_call0_v1, val_main_call0_v0, val_main_cst_11, val_main_cst_12, val_main_cst_13,
    val_main_cst_14, val_main_cst_15, val_main_cst_16, val_main_cst_17, val_main_cst_25]
  simp only [indices_apply, indicator]
  have hs : ∀ (t : Fin 2048) (e : Fin 32), (∑ k, if place x0 x1 x2 t k = e then (1 : EReal) else 0)
      = if Math.rank (probs x0 x1 x2 t) e < 16 then 1 else 0 := fun t e => by
    rw [Math.sum_places (probs x0 x1 x2 t) (place x0 x1 x2 t) (rank_place x0 x1 x2 t) (by decide)
      (fun q => if q = e then (1 : EReal) else 0), Finset.sum_eq_single e]
    · rw [if_pos rfl]
    · intro j _ hj; rw [if_neg hj, ite_self]
    · intro hn; exact absurd (Finset.mem_univ e) hn
  simp only [hs]
  have hp : probs x0 x1 x2 = (Math.Args.of x0 x1 x2 x3 x4 x5 x6 x7 x8 x9 x10 x11 x12).prob :=
    funext (probs_eq x0 x1 x2 x3 x4 x5 x6 x7 x8 x9 x10 x11 x12)
  unfold Math.Args.aux
  rw [← hp]
  rfl

end Cert.ReferenceIdeal.Value

end
-- ==== Proof.Claims.Value.lean ====
/- The value claim: on finite arguments the kernel and the reference end with the same two results. -/
module

public import proofs.«01_k».proof.Proof.Claims.Finite
public import proofs.«01_k».proof.Proof.Claims.Frames
public import proofs.«01_k».proof.Proof.Value.RefResults

@[expose] public section

set_option maxRecDepth 16384

namespace Cert.Proof

open Idealize.ShloMosaic Idealize.SL.Sem Idealize.ShloMosaic.TcCoe

variable (m : (ℓ : Loc Cert.KernelIdeal.nD Cert.KernelIdeal.τ Cert.KernelIdeal.sig) → Buf (Elt Ideal) ℓ)
  (x : Math.Args) (c : Dev Cert.KernelIdeal.nD)

/-- The first result, from any array that is the mixture entry by entry. -/
theorem out_ext (h : (KernelIdeal.Value.args m c).Finite) (v : FVec Ideal Cert.KernelIdeal.S2048x768 .f32)
    (hv : ∀ t d, v (ix2 t d) = (KernelIdeal.Value.args m c).out t d) :
    v = KernelIdeal.Gen.W5 m c Cert.KernelIdeal.main_v0_0 := by
  rw [KernelIdeal.Value.W5_out]
  funext i
  obtain ⟨t, d, rfl⟩ : ∃ t d, i = ix2 t d := ⟨i 0, i 1, by funext a; fin_cases a <;> rfl⟩
  exact (hv t d).trans (KernelIdeal.Value.out_eq h t d).symm

/-- The second result, from any scalar that is the loss. -/
theorem aux_ext (v : FVec Ideal Cert.KernelIdeal.S_ .f32)
    (hv : v ix0 = (KernelIdeal.Value.args m c).aux) : v = KernelIdeal.Gen.W5 m c Cert.KernelIdeal.main_v0_1 := by
  funext i
  obtain rfl : i = ix0 := funext fun a => a.elim0
  exact hv.trans ((KernelIdeal.Value.W5_aux c m).trans KernelIdeal.Value.aux_eq).symm

theorem algebraic [Cert.Pre_finite.Facts] :
    @Cert.algebraic_KernelIdeal_ReferenceIdeal_pre_finite Cert.KernelIdeal.Gen.facts Cert.ReferenceIdeal.Gen.facts _ := by
  intro m ρ m' ρ' hpre hargs
  refine ⟨fun c => KernelIdeal.Gen.W5 m c Cert.KernelIdeal.main_v0_0, fun c => KernelIdeal.Gen.W5 m c Cert.KernelIdeal.main_v0_1,
    ?_, ?_⟩
  · refine (θ_run _ _ _).mono (fun r h c => ?_) (KernelIdeal.Gen.run_all m ρ)
    have key (b : Ref Cert.KernelIdeal.sig .tc) (hb : b.isScoped = false) (hw) :
        r.2.mem ((c.tc : Thread Cert.KernelIdeal.nD Cert.KernelIdeal.τ).loc b)
          = m ((c.tc : Thread Cert.KernelIdeal.nD Cert.KernelIdeal.τ).loc b) :=
      (h.1 c _ (KernelIdeal.Gen.mem_ucRefs b hb)).trans (KernelIdeal.Gen.W5_launch m c b hw)
    exact ⟨h.1 c _ (KernelIdeal.Gen.mem_ucRefs Cert.KernelIdeal.main_v0_0 rfl),
      h.1 c _ (KernelIdeal.Gen.mem_ucRefs Cert.KernelIdeal.main_v0_1 rfl),
      key Cert.KernelIdeal.main_arg0 rfl (by decide),
      key Cert.KernelIdeal.main_arg1 rfl (by decide),
      key Cert.KernelIdeal.main_arg2 rfl (by decide),
      key Cert.KernelIdeal.main_arg3 rfl (by decide),
      key Cert.KernelIdeal.main_arg4 rfl (by decide),
      key Cert.KernelIdeal.main_arg5 rfl (by decide),
      key Cert.KernelIdeal.main_arg6 rfl (by decide),
      key Cert.KernelIdeal.main_arg7 rfl (by decide),
      key Cert.KernelIdeal.main_arg8 rfl (by decide),
      key Cert.KernelIdeal.main_arg9 rfl (by decide),
      key Cert.KernelIdeal.main_arg10 rfl (by decide),
      key Cert.KernelIdeal.main_arg11 rfl (by decide),
      key Cert.KernelIdeal.main_arg12 rfl (by decide)⟩
  · refine (θ_run _ _ _).mono (fun r h c => ?_) (ReferenceIdeal.Value.run m' ρ')
    obtain ⟨hout, haux, hrest⟩ := h c
    have hfin := finite_args m hpre c
    obtain ⟨a0, a1, a2, a3, a4, a5, a6, a7, a8, a9, a10, a11, a12⟩ := hargs c
    refine ⟨hout.trans ?_, haux.trans ?_, hrest⟩
    · rw [ReferenceIdeal.Read.val_main_v109_eq, a0, a1, a2, a3, a4, a5, a6, a7, a8, a9, a10, a11, a12]
      exact out_ext m c hfin _ fun t d => ReferenceIdeal.Value.out_apply _ _ _ _ _ _ _ _ _ _ _ _ _ t d
    · rw [ReferenceIdeal.Read.val_main_v110_eq, a0, a1, a2]
      exact aux_ext m c _ (ReferenceIdeal.Value.aux_apply _ _ _ _ _ _ _ _ _ _ _ _ _)

end Cert.Proof

end
-- ==== Proof.lean ====
module

public import proofs.«01_k».proof.Defs
public import proofs.«01_k».proof.Proof.Claims.Frames
public import proofs.«01_k».proof.Proof.Claims.Value
public import proofs.«01_k».proof.Proof.Gen.ReferenceIdeal.Run
public import proofs.«01_k».proof.Proof.Gen.ReferenceIdeal.Read

@[expose] public section

noncomputable section

namespace Cert.Proof

theorem claim : Cert.Claim :=
  ⟨Cert.Kernel.Gen.facts, Cert.KernelIdeal.Gen.facts, Cert.ReferenceIdeal.Gen.facts, finite_facts, frame_kernel, frame_ideal,
    have := finite_facts; frame_ideal_finite, frame_ref, have := finite_facts; frame_ref_finite, preserves,
    have := finite_facts; algebraic⟩

end Cert.Proof

end
